-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_usable [hPre_tables_usable : Cert.Pre_tables_usable.Facts] (m : (ℓ : Loc Cert.KernelIdeal.nD Cert.KernelIdeal.τ Cert.KernelIdeal.sig) → Buf (Elt Ideal) ℓ) : Prop :=
  ∀ c : Dev Cert.KernelIdeal.nD,
    (Cert.Pre_tables_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_usable [hPre_tables_usable : Cert.Pre_tables_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tables_usable [hKernelIdeal : Cert.KernelIdeal.Facts] [hPre_tables_usable : Cert.Pre_tables_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables_usable [hReferenceIdeal : Cert.ReferenceIdeal.Facts] [hPre_tables_usable : Cert.Pre_tables_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tables_usable [hKernelIdeal : Cert.KernelIdeal.Facts] [hReferenceIdeal : Cert.ReferenceIdeal.Facts] [hPre_tables_usable : Cert.Pre_tables_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tables_usable : Cert.Pre_tables_usable.Facts),
    quiescent_Kernel (hKernel := hKernel)
    ∧ quiescent_KernelIdeal (hKernelIdeal := hKernelIdeal)
    ∧ quiescent_KernelIdeal_pre_tables_usable (hKernelIdeal := hKernelIdeal) (hPre_tables_usable := hPre_tables_usable)
    ∧ quiescent_ReferenceIdeal (hReferenceIdeal := hReferenceIdeal)
    ∧ quiescent_ReferenceIdeal_pre_tables_usable (hReferenceIdeal := hReferenceIdeal) (hPre_tables_usable := hPre_tables_usable)
    ∧ preserves_Kernel_KernelIdeal
    ∧ algebraic_KernelIdeal_ReferenceIdeal_pre_tables_usable (hKernelIdeal := hKernelIdeal) (hReferenceIdeal := hReferenceIdeal) (hPre_tables_usable := hPre_tables_usable)
-- ==== Pre_tables_usable.lean ====
abbrev S2x4096x4096 : Shape := ⟨3, ![2, 4096, 4096]⟩
abbrev S4096x23 : Shape := ⟨2, ![4096, 23]⟩
abbrev S4096x24 : Shape := ⟨2, ![4096, 24]⟩
abbrev S4096 : Shape := ⟨1, ![4096]⟩
abbrev S4096x22 : Shape := ⟨2, ![4096, 22]⟩
abbrev S_ : Shape := ⟨0, ![]⟩

class Facts : Prop where
  slices_S4096x23_S4096x22_0_0 : S4096x23.Slices ![0, 0] S4096x22
  slices_S4096x23_S4096x22_0_1 : S4096x23.Slices ![0, 1] S4096x22
  reducesTo_S4096x22_S_d0_1 : S4096x22.ReducesTo [0, 1] S_
  h_S_ : 0 < S_.numel
  bcast_S_S4096x24 : S_.BroadcastsInDim S4096x24 (![] : Fin 0 → Fin S4096x24.rank)
  reducesTo_S4096x24_S_d0_1 : S4096x24.ReducesTo [0, 1] S_

variable [Facts]

def fn {F : FTy → Type} [FloatOps F] (main_arg0 : FVec F S2x4096x4096 .f32) (main_arg1 : FVec F S4096x23 .f32) (main_arg2 : FVec F S4096x24 .f32) (main_arg3 : FVec F S4096 .f32) (main_arg4 : FVec F S4096 .f32) : IVec S_ 1 :=
  let main_v0 : FVec F S4096x22 .f32 := (extractStridedSlice S4096x22 ![0, 0] · slices_S4096x23_S4096x22_0_0) main_arg1
  let main_v1 : FVec F S4096x22 .f32 := (extractStridedSlice S4096x22 ![0, 1] · slices_S4096x23_S4096x22_0_1) main_arg1
  let main_v2 : IVec S4096x22 1 := cmpf .ole main_v0 main_v1
  let main_c : IVec S_ 1 := constantI S_ 1 1#1
  let main_v3 : IVec S_ 1 := (fun x v => Host.reduce IntOp.andi x v reducesTo_S4096x22_S_d0_1 h_S_) main_v2 main_c
  let main_cst : FVec F S_ .f32 := constant S_ .f32 0x7F800000#32
  let main_v4 : FVec F S4096x24 .f32 := broadcastInDim S4096x24 ![] bcast_S_S4096x24 main_cst
  let main_v5 : IVec S4096x24 1 := cmpf .olt main_arg2 main_v4
  let main_cst_0 : FVec F S_ .f32 := constant S_ .f32 0xFF800000#32
  let main_v6 : FVec F S4096x24 .f32 := broadcastInDim S4096x24 ![] bcast_S_S4096x24 main_cst_0
  let main_v7 : IVec S4096x24 1 := cmpf .ogt main_arg2 main_v6
  let main_v8 : IVec S4096x24 1 := andi main_v5 main_v7
  let main_c_1 : IVec S_ 1 := constantI S_ 1 1#1
  let main_v9 : IVec S_ 1 := (fun x v => Host.reduce IntOp.andi x v reducesTo_S4096x24_S_d0_1 h_S_) main_v8 main_c_1
  let main_v10 : IVec S_ 1 := andi main_v3 main_v9
  main_v10
-- ==== Kernel.lean ====
abbrev S2x4096x4096 : Shape := ⟨3, ![2, 4096, 4096]⟩
abbrev S4096x23 : Shape := ⟨2, ![4096, 23]⟩
abbrev S4096x24 : Shape := ⟨2, ![4096, 24]⟩
abbrev S4096 : Shape := ⟨1, ![4096]⟩
abbrev S1024x8x4096 : Shape := ⟨3, ![1024, 8, 4096]⟩
abbrev S23x4096 : Shape := ⟨2, ![23, 4096]⟩
abbrev S23x1x4096 : Shape := ⟨3, ![23, 1, 4096]⟩
abbrev S23x8x4096 : Shape := ⟨3, ![23, 8, 4096]⟩
abbrev S24x4096 : Shape := ⟨2, ![24, 4096]⟩
abbrev S24x1x4096 : Shape := ⟨3, ![24, 1, 4096]⟩
abbrev S24x8x4096 : Shape := ⟨3, ![24, 8, 4096]⟩
abbrev S1x1x4096 : Shape := ⟨3, ![1, 1, 4096]⟩
abbrev S1x8x4096 : Shape := ⟨3, ![1, 8, 4096]⟩
abbrev S32x8x4096 : Shape := ⟨3, ![32, 8, 4096]⟩
abbrev S32x8x128 : Shape := ⟨3, ![32, 8, 128]⟩
abbrev S1x8x128 : Shape := ⟨3, ![1, 8, 128]⟩
abbrev S32x8 : Shape := ⟨2, ![32, 8]⟩
abbrev S32x8x1 : Shape := ⟨3, ![32, 8, 1]⟩

abbrev nBuf : Space → Nat
  | .hbm => 18
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096x23, .f32⟩
  | .hbm, ⟨2, _⟩ => ⟨S4096x24, .f32⟩
  | .hbm, ⟨3, _⟩ => ⟨S4096, .f32⟩
  | .hbm, ⟨4, _⟩ => ⟨S4096, .f32⟩
  | .hbm, ⟨5, _⟩ => ⟨S1024x8x4096, .f32⟩
  | .hbm, ⟨6, _⟩ => ⟨S23x4096, .f32⟩
  | .hbm, ⟨7, _⟩ => ⟨S23x1x4096, .f32⟩
  | .hbm, ⟨8, _⟩ => ⟨S23x8x4096, .f32⟩
  | .hbm, ⟨9, _⟩ => ⟨S24x4096, .f32⟩
  | .hbm, ⟨10, _⟩ => ⟨S24x1x4096, .f32⟩
  | .hbm, ⟨11, _⟩ => ⟨S24x8x4096, .f32⟩
  | .hbm, ⟨12, _⟩ => ⟨S1x1x4096, .f32⟩
  | .hbm, ⟨13, _⟩ => ⟨S1x8x4096, .f32⟩
  | .hbm, ⟨14, _⟩ => ⟨S1x1x4096, .f32⟩
  | .hbm, ⟨15, _⟩ => ⟨S1x8x4096, .f32⟩
  | .hbm, ⟨16, _⟩ => ⟨S1024x8x4096, .f32⟩
  | .hbm, ⟨17, _⟩ => ⟨S2x4096x4096, .f32⟩
  | .local _ .vmem, ⟨0, _⟩ => ⟨S23x8x4096, .f32⟩
  | .local _ .vmem, ⟨1, _⟩ => ⟨S24x8x4096, .f32⟩
  | .local _ .vmem, ⟨2, _⟩ => ⟨S1x8x4096, .f32⟩
  | .local _ .vmem, ⟨3, _⟩ => ⟨S1x8x4096, .f32⟩
  | .local _ .vmem, ⟨4, _⟩ => ⟨S32x8x4096, .f32⟩
  | .local _ .vmem, ⟨5, _⟩ => ⟨S32x8x4096, .f32⟩
  | .local _ .vmem, ⟨6, _⟩ => ⟨S32x8x4096, .f32⟩
  | .local _ .vmem, ⟨7, _⟩ => ⟨S32x8x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S23x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x4096 : Shape := ⟨3, ![2, 4096, 4096]⟩
abbrev S4096x23 : Shape := ⟨2, ![4096, 23]⟩
abbrev S4096x24 : Shape := ⟨2, ![4096, 24]⟩
abbrev S4096 : Shape := ⟨1, ![4096]⟩
abbrev S8192x4096 : Shape := ⟨2, ![8192, 4096]⟩
abbrev S8192x4096x1 : Shape := ⟨3, ![8192, 4096, 1]⟩
abbrev S1x4096x23 : Shape := ⟨3, ![1, 4096, 23]⟩
abbrev S8192x4096x23 : Shape := ⟨3, ![8192, 4096, 23]⟩
abbrev S_ : Shape := ⟨0, ![]⟩
abbrev S4096x8192 : Shape := ⟨2, ![4096, 8192]⟩
abbrev S4096x8192x1 : Shape := ⟨3, ![4096, 8192, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x23, .f32⟩
  | .hbm, ⟨2, _⟩ => ⟨S4096x24, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S8192x4096x1, .f32⟩
  | .hbm, ⟨7, _⟩ => ⟨S1x4096x23, .f32⟩
  | .hbm, ⟨8, _⟩ => ⟨S8192x4096x23, .f32⟩
  | .hbm, ⟨9, _⟩ => ⟨S8192x4096x23, .f32⟩
  | .hbm, ⟨10, _⟩ => ⟨S8192x4096x23, .i1⟩
  | .hbm, ⟨11, _⟩ => ⟨S8192x4096x23, .i32⟩
  | .hbm, ⟨12, _⟩ => ⟨S_, .i32⟩
  | .hbm, ⟨13, _⟩ => ⟨S8192x4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8192x4096, .i32⟩
  | .hbm, ⟨18, _⟩ => ⟨S8192x4096, .i32⟩
  | .hbm, ⟨19, _⟩ => ⟨S_, .i32⟩
  | .hbm, ⟨20, _⟩ => ⟨S8192x4096, .i32⟩
  | .hbm, ⟨21, _⟩ => ⟨S8192x4096, .i32⟩
  | .hbm, ⟨22, _⟩ => ⟨S4096x8192, .i32⟩
  | .hbm, ⟨23, _⟩ => ⟨S_, .i32⟩
  | .hbm, ⟨24, _⟩ => ⟨S4096x8192, .i32⟩
  | .hbm, ⟨25, _⟩ => ⟨S4096x8192, .i1⟩
  | .hbm, ⟨26, _⟩ => ⟨S_, .i32⟩
  | .hbm, ⟨27, _⟩ => ⟨S4096x8192, .i32⟩
  | .hbm, ⟨28, _⟩ => ⟨S4096x8192, .i32⟩
  | .hbm, ⟨29, _⟩ => ⟨S4096x8192, .i32⟩
  | .hbm, ⟨30, _⟩ => ⟨S4096x8192x1, .i32⟩
  | .hbm, ⟨31, _⟩ => ⟨S1, .i32⟩
  | .hbm, ⟨32, _⟩ => ⟨S_, .i32⟩
  | .hbm, ⟨33, _⟩ => ⟨S4096x8192x1, .i32⟩
  | .hbm, ⟨34, _⟩ => ⟨S4096x8192x1, .i1⟩
  | .hbm, ⟨35, _⟩ => ⟨S1x1x1, .i32⟩
  | .hbm, ⟨36, _⟩ => ⟨S4096x8192x1, .i32⟩
  | .hbm, ⟨37, _⟩ => ⟨S4096x8192x1, .i1⟩
  | .hbm, ⟨38, _⟩ => ⟨S4096x8192x1, .i1⟩
  | .hbm, ⟨39, _⟩ => ⟨S_, .i1⟩
  | .hbm, ⟨40, _⟩ => ⟨S4096x8192, .i1⟩
  | .hbm, ⟨41, _⟩ => ⟨S4096x8192, .f32⟩
  | .hbm, ⟨42, _⟩ => ⟨S_, .f32⟩
  | .hbm, ⟨43, _⟩ => ⟨S4096x8192, .f32⟩
  | .hbm, ⟨44, _⟩ => ⟨S4096x8192, .f32⟩
  | .hbm, ⟨45, _⟩ => ⟨S8192x4096, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .i32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x4096, .f32⟩
  | .hbm, ⟨83, _⟩ => ⟨S8192x4096, .f32⟩
  | .hbm, ⟨84, _⟩ => ⟨S1x4096, .f32⟩
  | .hbm, ⟨85, _⟩ => ⟨S8192x4096, .f32⟩
  | .hbm, ⟨86, _⟩ => ⟨S8192x4096, .f32⟩
  | .hbm, ⟨87, _⟩ => ⟨S1x4096, .f32⟩
  | .hbm, ⟨88, _⟩ => ⟨S8192x4096, .f32⟩
  | .hbm, ⟨89, _⟩ => ⟨S8192x4096, .f32⟩
  | .hbm, ⟨90, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v10 : Ref sig .tc := ⟨.hbm, 44, rfl⟩
abbrev main_v11 : Ref sig .tc := ⟨.hbm, 45, rfl⟩
abbrev main_cst : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_v15 : Ref sig .tc := ⟨.hbm, 51, rfl⟩
abbrev main_c_3 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_cst_2 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_cst_3 : Ref sig .tc := ⟨.hbm, 70, rfl⟩
abbrev main_call2_v13 : Ref sig .tc := ⟨.hbm, 71, rfl⟩
abbrev main_call2_cst_4 : Ref sig .tc := ⟨.hbm, 72, rfl⟩
abbrev main_call2_call0_v0 : Ref sig .tc := ⟨.hbm, 73, rfl⟩
abbrev main_call2_call0_v1 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_4 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩

abbrev nD : Nat := 1
abbrev τ : Topo := Topo.v7x

variable {F : FTy → Type} [FloatOps F]
-- ==== Proof.Pieces.lean ====
/-
  The pieces the kernel's body leaves in its output block, described by recursion over the chunks of 128 lanes: what the
  first pass stores (the reconstruction levels, found threshold by threshold), the two running sums, and what the second
  pass stores over it.
-/
module

public import proofs.«01_k».proof.Proof.Gen.KernelIdeal.Frame.RunA

@[expose] public section

set_option maxRecDepth 16384

noncomputable section

namespace Cert.KernelIdeal.Body

open Cert.KernelIdeal Cert.KernelIdeal.Gen Cert.KernelIdeal.Facts Idealize.ShloMosaic

variable {F : FTy → Type} [FloatOps F]

/-! ## The body's arithmetic on vectors -/

/-- One threshold's step: where `x` exceeds the threshold, the level above it replaces the level found so far. -/
def step (x : Vec F S32x8x128 .f32) (t y : Vec F S1x8x128 .f32) (v : FVec F S32x8x128 .f32) : FVec F S32x8x128 .f32 :=
  select (cmpf .ogt (shapeCast S32x8x128 x shapeCasts_S32x8x128_S32x8x128)
      (broadcastTo S32x8x128 (shapeCast S1x8x128 t shapeCasts_S1x8x128_S1x8x128) broadcasts_S1x8x128_S32x8x128))
    (broadcastTo S32x8x128 (shapeCast S1x8x128 (shapeCast S1x8x128 y shapeCasts_S1x8x128_S1x8x128) shapeCasts_S1x8x128_S1x8x128)
      broadcasts_S1x8x128_S32x8x128) v

/-- The levels of one chunk after `k` thresholds: `x` the chunk, `t j` and `y j` its row of threshold `j` and of level `j`. -/
def quant (x : Vec F S32x8x128 .f32) (t y : ℕ → Vec F S1x8x128 .f32) (k : ℕ) : FVec F S32x8x128 .f32 :=
  Nat.rec (broadcastTo S32x8x128 (shapeCast S1x8x128 (shapeCast S1x8x128 (y 0) shapeCasts_S1x8x128_S1x8x128)
    shapeCasts_S1x8x128_S1x8x128) broadcasts_S1x8x128_S32x8x128) (fun j v => step x (t j) (y (j + 1)) v) k

/-- The sum of the first `n` chunks' levels, lane by lane. -/
def sums (q : ℕ → FVec F S32x8x128 .f32) (n : ℕ) : FVec F S32x8x128 .f32 :=
  Nat.rec (broadcast S32x8x128 (Scalar.ofBits .f32 0x00000000#32 : F .f32)) (fun c s => addf s (q c)) n

/-- The sum of the squares of the first `n` chunks' levels, lane by lane. -/
def squares (q : ℕ → FVec F S32x8x128 .f32) (n : ℕ) : FVec F S32x8x128 .f32 :=
  Nat.rec (broadcast S32x8x128 (Scalar.ofBits .f32 0x00000000#32 : F .f32)) (fun c s => addf s (mulf (q c) (q c))) n

/-- The lanes of `s` added up and divided by 4096. -/
def avg (s : FVec F S32x8x128 .f32) : FVec F S32x8x1 .f32 :=
  mulf (shapeCast S32x8x1 (multiReduction .add [2] S32x8 s 0x00000000#32 reduces_S32x8x128_S32x8 (.inl rfl) rfl) shapeCasts_S32x8_S32x8x1)
    (broadcast S32x8x1 (Scalar.ofBits .f32 0x39800000#32 : F .f32))

/-- The reciprocal root of the variance: the mean of the squares less the square of the mean, plus the small constant. -/
def inv (q : ℕ → FVec F S32x8x128 .f32) : FVec F S32x8x1 .f32 :=
  rsqrt (addf (subf (avg (squares q 32)) (mulf (avg (sums q 32)) (avg (sums q 32))))
    (broadcast S32x8x1 (Scalar.ofBits .f32 0x3727C5AC#32 : F .f32)))

/-- What the second pass stores for a chunk: its levels `v` less the mean, times the reciprocal root, scaled and shifted. -/
def final (q : ℕ → FVec F S32x8x128 .f32) (v : Vec F S32x8x128 .f32) (g b : Vec F S1x8x128 .f32) : FVec F S32x8x128 .f32 :=
  addf (mulf (mulf (subf (shapeCast S32x8x128 v shapeCasts_S32x8x128_S32x8x128)
        (broadcastTo S32x8x128 (avg (sums q 32)) broadcasts_S32x8x1_S32x8x128))
      (broadcastTo S32x8x128 (inv q) broadcasts_S32x8x1_S32x8x128))
    (broadcastTo S32x8x128 (shapeCast S1x8x128 g shapeCasts_S1x8x128_S1x8x128) broadcasts_S1x8x128_S32x8x128))
    (broadcastTo S32x8x128 (shapeCast S1x8x128 b shapeCasts_S1x8x128_S1x8x128) broadcasts_S1x8x128_S32x8x128)

/-! ## The rectangles -/

/-- A chunk of 128 lanes of row `j % n` lies inside an array of `n` rows. -/
theorem inb_row (n j c : ℕ) (hn : 0 < n) :
    ∀ a : Fin 3, (![j % n, 0, 128 * (c % 32)] : Fin 3 → ℕ) a + S1x8x128.size a ≤ (![n, 8, 4096] : Fin 3 → ℕ) a := by
  have h1 := Nat.mod_lt j hn
  have h2 := Nat.mod_lt c (show 0 < 32 by decide)
  intro a
  match a with
  | ⟨0, _⟩ => show j % n + 1 ≤ n; omega
  | ⟨1, _⟩ => show 0 + 8 ≤ 8; omega
  | ⟨2, _⟩ => show 128 * (c % 32) + 128 ≤ 4096; omega

/-- A chunk of 128 lanes of every row lies inside the block. -/
theorem inb_chunk (c : ℕ) :
    ∀ a : Fin 3, (![0, 0, 128 * (c % 32)] : Fin 3 → ℕ) a + S32x8x128.size a ≤ S32x8x4096.size a := by
  have h2 := Nat.mod_lt c (show 0 < 32 by decide)
  intro a
  match a with
  | ⟨0, _⟩ => show 0 + 32 ≤ 32; omega
  | ⟨1, _⟩ => show 0 + 8 ≤ 8; omega
  | ⟨2, _⟩ => show 128 * (c % 32) + 128 ≤ 4096; omega

/-- Chunk `c` of the block: 128 lanes of every row. -/
abbrev chunk (c : ℕ) : Rect S32x8x4096 := Rect.unit ![0, 0, 128 * (c % 32)] S32x8x128.size (inb_chunk c)

/-! ## The pieces -/

section
variable (arg1 : Memref sig .tc .vmem S23x8x4096 .f32) (harg1 : arg1.IsWhole) (arg2 : Memref sig .tc .vmem S24x8x4096 .f32)
  (harg2 : arg2.IsWhole) (arg3 : Memref sig .tc .vmem S1x8x4096 .f32) (harg3 : arg3.IsWhole)
  (arg4 : Memref sig .tc .vmem S1x8x4096 .f32) (harg4 : arg4.IsWhole) (arg5 : Memref sig .tc .vmem S32x8x4096 .f32)
  (harg5 : arg5.IsWhole) (arg6 : Memref sig .tc .vmem S32x8x4096 .f32)
  (x0 : Vec F S23x8x4096 .f32) (x1 : Vec F S24x8x4096 .f32) (x2 x3 : Vec F S1x8x4096 .f32) (x4 : Vec F S32x8x4096 .f32)

/-- The load of threshold `j`'s row at chunk `c`. -/
def loadT (c j : ℕ) : Vec F S1x8x128 .f32 :=
  View.readAt (Elt F) arg1.view (Rect.unit (s := S23x8x4096) ![j % 23, 0, 128 * (c % 32)] S1x8x128.size (inb_row 23 j c (by decide))).toLoadRect
    (harg1.unread x0)

/-- The load of level `j`'s row at chunk `c`. -/
def loadY (c j : ℕ) : Vec F S1x8x128 .f32 :=
  View.readAt (Elt F) arg2.view (Rect.unit (s := S24x8x4096) ![j % 24, 0, 128 * (c % 32)] S1x8x128.size (inb_row 24 j c (by decide))).toLoadRect
    (harg2.unread x1)

/-- The load of a scale or shift at chunk `c`. -/
def loadG (arg : Memref sig .tc .vmem S1x8x4096 .f32) (harg : arg.IsWhole) (x : Vec F S1x8x4096 .f32) (c : ℕ) :
    Vec F S1x8x128 .f32 :=
  View.readAt (Elt F) arg.view (Rect.unit (s := S1x8x4096) ![0 % 1, 0, 128 * (c % 32)] S1x8x128.size (inb_row 1 0 c (by decide))).toLoadRect
    (harg.unread x)

/-- The load of chunk `c` of the rows. -/
def loadX (c : ℕ) : Vec F S32x8x128 .f32 :=
  View.readAt (Elt F) arg5.view (chunk c).toLoadRect (harg5.unread x4)

/-- The levels of chunk `c`. -/
def levels (c : ℕ) : FVec F S32x8x128 .f32 :=
  quant (loadX arg5 harg5 x4 c) (loadT arg1 harg1 x0 c) (loadY arg2 harg2 x1 c) 23

/-- The first pass's pieces after `n` chunks. -/
def first (q : ℕ → FVec F S32x8x128 .f32) (n : ℕ) : List (View.Piece (Elt F) S32x8x4096 .f32) :=
  Nat.rec [] (fun c L => ⟨chunk c, q c⟩ :: L) n

/-- The second pass's pieces over the first's after `n` chunks: each chunk is read back and replaced. -/
def second (q : ℕ → FVec F S32x8x128 .f32) (g b : ℕ → Vec F S1x8x128 .f32) (n : ℕ) :
    List (View.Piece (Elt F) S32x8x4096 .f32) :=
  Nat.rec (first q 32)
    (fun c L => ⟨chunk c, final q (arg6.view.readCov L (chunk c).toLoadRect) (g c) (b c)⟩ :: L) n

end

section
variable (c : Dev nD) (arg1 : Memref sig .tc .vmem S23x8x4096 .f32) (harg1 : arg1.IsWhole) (arg2 : Memref sig .tc .vmem S24x8x4096 .f32)
  (harg2 : arg2.IsWhole) (arg3 : Memref sig .tc .vmem S1x8x4096 .f32) (harg3 : arg3.IsWhole)
  (arg4 : Memref sig .tc .vmem S1x8x4096 .f32) (harg4 : arg4.IsWhole) (arg5 : Memref sig .tc .vmem S32x8x4096 .f32)
  (harg5 : arg5.IsWhole) (arg6 : Memref sig .tc .vmem S32x8x4096 .f32)(harg6 : arg6.IsWhole)
  (x0 : Vec F S23x8x4096 .f32) (x1 : Vec F S24x8x4096 .f32) (x2 x3 : Vec F S1x8x4096 .f32) (x4 : Vec F S32x8x4096 .f32)

/-- The body's pieces are the two passes'. -/
theorem pieces_eq (i : grid0.Coords) : (kernelRun0_A (F := F) c i arg1 harg1 arg2 harg2 arg3 harg3 arg4 harg4 arg5 harg5 arg6 harg6 x0 x1 x2 x3 x4).1
    = second arg6 (levels arg1 harg1 arg2 harg2 arg5 harg5 x0 x1 x4) (loadG arg3 harg3 x2) (loadG arg4 harg4 x3) 32 := by
  sl_kernel_rfl
end
end Cert.KernelIdeal.Body

end
-- ==== Proof.Spec.lean ====
/-
  The mathematics both programs compute, on its own: the reconstruction level a value falls on, and a row of levels
  normalized by its mean and variance. No program is mentioned here.
-/
module

public import Idealize.ShloMosaic.PureOps.Ideal.Laws
public import Idealize.ShloMosaic.Lib.ValueIdxCore

@[expose] public section

noncomputable section

namespace Cert.Spec

open Idealize.ShloMosaic Idealize.ShloMosaic.ValueIdx

/-! ## The level a value falls on -/

/-- How many of a channel's 23 thresholds lie strictly below `x`. -/
def below (t : Fin 23 → EReal) (x : EReal) : ℕ := (Finset.univ.filter fun j => t j < x).card

/-- A count of 23 thresholds is below 24. -/
theorem below_lt (t : Fin 23 → EReal) (x : EReal) : below t x < 24 :=
  Nat.lt_succ_of_le ((Finset.card_le_univ _).trans (by simp))

/-- The level `x` falls on: the one whose number is the count of thresholds below `x`. -/
def level (t : Fin 23 → EReal) (y : Fin 24 → EReal) (x : EReal) : EReal := y ⟨below t x, below_lt t x⟩

/-- The level found by going through the first `k` thresholds in order, each one below `x` replacing the level found so
    far by the level above that threshold. -/
def chain (t : Fin 23 → EReal) (y : Fin 24 → EReal) (x : EReal) : (k : ℕ) → k ≤ 23 → EReal
  | 0, _ => y 0
  | k + 1, h => if t ⟨k, h⟩ < x then y ⟨k + 1, Nat.succ_lt_succ h⟩ else chain t y x k (Nat.le_of_succ_le h)

/-- How many of the first `k` thresholds lie below `x`. -/
def belowFirst (t : Fin 23 → EReal) (x : EReal) (k : ℕ) : ℕ :=
  (Finset.univ.filter fun j : Fin 23 => j.val < k ∧ t j < x).card

/-- With ascending thresholds, if threshold `k` is below `x` then so are all before it: `k + 1` of the first `k + 1`. -/
theorem belowFirst_succ_of_lt {t : Fin 23 → EReal} (ht : Monotone t) {x : EReal} {k : ℕ} (hk : k < 23) (h : t ⟨k, hk⟩ < x) :
    belowFirst t x (k + 1) = k + 1 := by
  unfold belowFirst
  have e : (Finset.univ.filter fun j : Fin 23 => j.val < k + 1 ∧ t j < x) = Finset.univ.filter fun j : Fin 23 => j.val < k + 1 :=
    Finset.filter_congr fun j _ => ⟨fun a => a.1, fun a =>
      ⟨a, lt_of_le_of_lt (ht (show j ≤ ⟨k, hk⟩ from Nat.lt_succ_iff.mp a)) h⟩⟩
  rw [e, Fin.card_filter_val_lt, Nat.min_eq_right hk]

/-- A threshold not below `x` adds nothing to the count. -/
theorem belowFirst_succ_of_not_lt {t : Fin 23 → EReal} {x : EReal} {k : ℕ} (hk : k < 23) (h : ¬ t ⟨k, hk⟩ < x) :
    belowFirst t x (k + 1) = belowFirst t x k := by
  unfold belowFirst
  refine congrArg Finset.card (Finset.filter_congr fun j _ => ⟨fun a => ⟨?_, a.2⟩, fun a => ⟨Nat.lt_succ_of_lt a.1, a.2⟩⟩)
  refine lt_of_le_of_ne (Nat.lt_succ_iff.mp a.1) fun e => h ?_
  have : j = ⟨k, hk⟩ := Fin.ext e
  exact this ▸ a.2

/-- At most `k` of the first `k` thresholds are below `x`. -/
theorem belowFirst_lt (t : Fin 23 → EReal) (x : EReal) (k : ℕ) : belowFirst t x k < 24 :=
  Nat.lt_succ_of_le ((Finset.card_le_univ _).trans (by simp))

/-- With ascending thresholds the walk over the first `k` ends on the level numbered by the count of those below `x`. -/
theorem chain_eq {t : Fin 23 → EReal} (ht : Monotone t) (y : Fin 24 → EReal) (x : EReal) :
    ∀ (k : ℕ) (hk : k ≤ 23), chain t y x k hk = y ⟨belowFirst t x k, belowFirst_lt t x k⟩
  | 0, _ => congrArg y (Fin.ext (by simp [belowFirst]))
  | k + 1, hk => by
    rw [chain]
    split
    · rename_i h
      exact congrArg y (Fin.ext (belowFirst_succ_of_lt ht hk h).symm)
    · rename_i h
      rw [chain_eq ht y x k]
      exact congrArg y (Fin.ext (belowFirst_succ_of_not_lt hk h).symm)

/-- With ascending thresholds the walk over all of them ends on the level `x` falls on. -/
theorem chain_eq_level {t : Fin 23 → EReal} (ht : Monotone t) (y : Fin 24 → EReal) (x : EReal) :
    chain t y x 23 le_rfl = level t y x := by
  rw [chain_eq ht]
  refine congrArg y (Fin.ext ?_)
  show belowFirst t x 23 = below t x
  exact congrArg Finset.card (Finset.filter_congr fun j _ => ⟨fun a => a.2, fun a => ⟨j.isLt, a⟩⟩)

/-! ## A row of reals, normalized -/

/-- The mean of a row of 4096 reals. -/
def mean (r : Fin 4096 → ℝ) : ℝ := (∑ h, r h) / 4096

/-- The variance of a row of 4096 reals: the mean of the squared distances from the row's mean. -/
def var (r : Fin 4096 → ℝ) : ℝ := (∑ h, (r h - mean r) * (r h - mean r)) / 4096

/-- The variance is the mean of the squares less the square of the mean. -/
theorem var_eq (r : Fin 4096 → ℝ) : var r = (∑ h, r h * r h) / 4096 - mean r * mean r := by
  have e : ∀ h, (r h - mean r) * (r h - mean r) = r h * r h - 2 * mean r * r h + mean r * mean r := fun h => by ring
  have s : ∑ h, r h = 4096 * mean r := by unfold mean; ring
  unfold var
  simp only [e]
  rw [Finset.sum_add_distrib, Finset.sum_sub_distrib, ← Finset.mul_sum, s, Finset.sum_const]
  simp only [Finset.card_univ, Fintype.card_fin, nsmul_eq_mul]
  push_cast
  ring

/-- The constant added to the variance under the root, as the number its printed pattern stands for. -/
abbrev eps : EReal := Ideal.ofBits .f32 0x3727C5AC#32

/-- Entry `h` of the row `r` normalized, scaled by `g` and shifted by `b`. -/
def normed (r : Fin 4096 → ℝ) (g b : EReal) (h : Fin 4096) : EReal :=
  ((r h : EReal) - (mean r : EReal)) * Ideal.rsqrt ((var r : EReal) + eps) * g + b

/-- The literal 1/4096 is that real. -/
theorem ofBits_inv4096 : Ideal.ofBits .f32 0x39800000#32 = (((1 : ℝ) / 4096 : ℝ) : EReal) := by
  simp [Ideal.ofBits, Ideal.ieee, -EReal.coe_mul]; norm_num

/-- The literal 4096 is that real. -/
theorem ofBits_4096 : Ideal.ofBits .f32 0x45800000#32 = ((4096 : ℝ) : EReal) := by
  simp [Ideal.ofBits, Ideal.ieee, -EReal.coe_mul]; norm_num

/-- A real divided by 4096, in the extended reals. -/
theorem div_4096 (a : ℝ) : Ideal.div (a : EReal) ((4096 : ℝ) : EReal) = ((a / 4096 : ℝ) : EReal) := by
  unfold Ideal.div
  rw [if_neg (by exact_mod_cast (by norm_num : (4096 : ℝ) ≠ 0)), ← EReal.coe_inv, ← EReal.coe_mul, div_eq_mul_inv]

/-- A sum of reals taken in the extended reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over 4096 places, taken by lane and then by chunk of 128. -/
theorem sum_lanes {M : Type} [AddCommMonoid M] (f : Fin 4096 → M) :
    ∑ h, f h = ∑ l : Fin 128, ∑ c : Fin 32, f ⟨128 * c.val + l.val, by omega⟩ := by
  rw [Finset.sum_comm, ← Fintype.sum_prod_type']
  refine (Fintype.sum_equiv (finProdFinEquiv (m := 32) (n := 128)) _ _ fun p => ?_).symm
  exact congrArg f (Fin.ext (Nat.add_comm _ _))

/-! ## The result -/

/-- What is asked of the tables: each channel's thresholds ascend, and every level is a real number. -/
structure Usable (t : (⟨2, ![4096, 23]⟩ : Shape).Idx → EReal) (y : (⟨2, ![4096, 24]⟩ : Shape).Idx → EReal) : Prop where
  ascending : ∀ h : Fin 4096, Monotone fun j : Fin 23 => t (ix2 h j)
  real : ∀ (h : Fin 4096) (j : Fin 24), ((y (ix2 h j)).toReal : EReal) = y (ix2 h j)

variable (x : (⟨3, ![2, 4096, 4096]⟩ : Shape).Idx → EReal) (t : (⟨2, ![4096, 23]⟩ : Shape).Idx → EReal)
  (y : (⟨2, ![4096, 24]⟩ : Shape).Idx → EReal) (g b : (⟨1, ![4096]⟩ : Shape).Idx → EReal)

/-- The levels of row `(i, j)` of `x`, as reals: channel `h` by its own thresholds and levels. -/
def row (i : Fin 2) (j : Fin 4096) (h : Fin 4096) : ℝ :=
  (level (fun k => t (ix2 h k)) (fun k => y (ix2 h k)) (x (ix3 i j h))).toReal

/-- With usable tables the level of an entry is the real number `row` gives. -/
theorem row_eq {t : (⟨2, ![4096, 23]⟩ : Shape).Idx → EReal} {y : (⟨2, ![4096, 24]⟩ : Shape).Idx → EReal} (u : Usable t y)
    (i : Fin 2) (j : Fin 4096) (h : Fin 4096) :
    (row x t y i j h : EReal) = level (fun k => t (ix2 h k)) (fun k => y (ix2 h k)) (x (ix3 i j h)) := u.real h _

/-- The result: each row's levels normalized, scaled and shifted channel by channel. -/
def out : (⟨3, ![2, 4096, 4096]⟩ : Shape).Idx → EReal := fun i =>
  normed (row x t y (i 0) (i 1)) (g (ix1 (i 2))) (b (ix1 (i 2))) (i 2)

end Cert.Spec

end
-- ==== Proof.Body.lean ====
/-
  What the kernel's body leaves in its output block, entry by entry, on the extended reals: the levels of the block's
  rows, each row normalized by its mean and variance.
-/
module

public import proofs.«01_k».proof.Proof.Pieces
public import proofs.«01_k».proof.Proof.Spec
public import Idealize.ShloMosaic.Lib.ValueIdx
public import Idealize.ShloMosaic.Lib.WholeRead
public import Idealize.ShloMosaic.Lib.Pipeline.Value
public import Idealize.ShloMosaic.Lib.Pipeline.ValueKit

@[expose] public section

set_option maxRecDepth 16384

noncomputable section

namespace Cert.KernelIdeal.Body

open Cert.KernelIdeal Cert.KernelIdeal.Gen Cert.KernelIdeal.Facts Idealize.ShloMosaic.ValueIdx
open Idealize.ShloMosaic hiding ix2 ix3 addf_apply mulf_apply subf_apply

/-! ## Reading the pieces back -/

section
variable {F : FTy → Type} [FloatOps F] [∀ e, Nonempty (Elt F e)]

/-- A place of the block lies in chunk `c` when its lane does. -/
theorem mem_chunk {c : ℕ} (hc : c < 32) {y : S32x8x4096.Idx} (h : y ∈ (chunk c).set) : (y 2).val / 128 = c := by
  have h2 := Rect.mem_set_unit.mp h 2
  have e : (![0, 0, 128 * (c % 32)] : Fin 3 → ℕ) 2 = 128 * c := by
    show 128 * (c % 32) = 128 * c
    rw [Nat.mod_eq_of_lt hc]
  have e' : S32x8x128.size 2 = 128 := rfl
  rw [e, e'] at h2
  omega

/-- A place of chunk `c` lies in no other chunk. -/
theorem not_mem_chunk {c d : ℕ} (hc : c < 32) (hd : d < 32) (hne : c ≠ d) (x : S32x8x128.Idx) :
    (chunk c).emb x ∉ (chunk d).set := fun h =>
  hne ((mem_chunk hc ((chunk c).toLoadRect.idx_mem x)).symm.trans (mem_chunk hd h))

/-- Off the last piece, the pieces before it are read. -/
theorem canon_skip (r : Rect S32x8x4096) (w : r.shape.Idx → Elt F .f32) (L : List (View.Piece (Elt F) S32x8x4096 .f32))
    (y : S32x8x4096.Idx) (h : y ∉ r.set) : View.canon (⟨r, w⟩ :: L) y = View.canon L y :=
  View.canon_cons_of_not_mem ⟨r, w⟩ L h

/-- After the first pass, chunk `c` holds its levels. -/
theorem canon_first (q : ℕ → FVec F S32x8x128 .f32) (c : ℕ) (x : S32x8x128.Idx) :
    ∀ n, n ≤ 32 → c < n → View.canon (first q n) ((chunk c).emb x) = q c x
  | 0, _, h => absurd h (Nat.not_lt_zero _)
  | n + 1, hn, h => by
    by_cases e : c = n
    · subst e
      exact View.canon_cons_emb (chunk c) (q c) (first q c) x
    · exact (canon_skip (chunk n) (q n) (first q n) _ (not_mem_chunk (by omega) (by omega) e x)).trans
        (canon_first q c x n (by omega) (by omega))

variable (arg6 : Memref sig .tc .vmem S32x8x4096 .f32) (q : ℕ → FVec F S32x8x128 .f32) (g b : ℕ → Vec F S1x8x128 .f32)

/-- The pieces after one more chunk of the second pass. -/
theorem second_succ (n : ℕ) : second arg6 q g b (n + 1) =
    ⟨chunk n, final q (arg6.view.readCov (second arg6 q g b n) (chunk n).toLoadRect) (g n) (b n)⟩ :: second arg6 q g b n := rfl

/-- While the second pass has not reached chunk `c`, the chunk still holds its levels. -/
theorem canon_second_old (c : ℕ) (hc : c < 32) (x : S32x8x128.Idx) :
    ∀ n, n ≤ c → View.canon (second arg6 q g b n) ((chunk c).emb x) = q c x
  | 0, _ => canon_first q c x 32 le_rfl hc
  | n + 1, hn => by
    have h : (chunk c).emb x ∉ (chunk n).set := not_mem_chunk hc (by omega) (by omega) x
    rw [second_succ, canon_skip _ _ _ _ h]
    exact canon_second_old c hc x n (by omega)

/-- What the second pass reads back for chunk `c` is its levels. -/
theorem readCov_second (c : ℕ) (hc : c < 32) :
    arg6.view.readCov (second arg6 q g b c) (chunk c).toLoadRect = q c := by
  rw [View.readCov_eq_canon']
  funext x
  exact canon_second_old arg6 q g b c hc x c le_rfl

/-- After the second pass, chunk `c` holds its levels normalized. -/
theorem canon_second (c : ℕ) (x : S32x8x128.Idx) :
    ∀ n, n ≤ 32 → c < n → View.canon (second arg6 q g b n) ((chunk c).emb x) = final q (q c) (g c) (b c) x
  | 0, _, h => absurd h (Nat.not_lt_zero _)
  | n + 1, hn, h => by
    rw [second_succ]
    by_cases e : c = n
    · subst e
      rw [readCov_second arg6 q g b c hn]
      exact View.canon_cons_emb (chunk c) _ (second arg6 q g b c) x
    · have h' : (chunk c).emb x ∉ (chunk n).set := not_mem_chunk (by omega) (by omega) e x
      rw [canon_skip _ _ _ _ h']
      exact canon_second c x n (by omega) (by omega)

end

/-! ## The arithmetic, entry by entry -/

/-- A row of 8 by 128 repeated over the 32 rows, read at an entry. -/
theorem row_apply {α : Type} (v : S1x8x128.Idx → α) (r : Fin 32) (s : Fin 8) (l : Fin 128) :
    broadcastTo S32x8x128 v broadcasts_S1x8x128_S32x8x128 (ix3 r s l) = v (ix3 0 s l) :=
  broadcastTo_apply v _ _ _ fun a => match a with | ⟨0, _⟩ => rfl | ⟨1, _⟩ => rfl | ⟨2, _⟩ => rfl

/-- A column of 32 by 8 repeated over the 128 lanes, read at an entry. -/
theorem col_apply {α : Type} (v : S32x8x1.Idx → α) (r : Fin 32) (s : Fin 8) (l : Fin 128) :
    broadcastTo S32x8x128 v broadcasts_S32x8x1_S32x8x128 (ix3 r s l) = v (ix3 r s 0) :=
  broadcastTo_apply v _ _ _ fun a => match a with | ⟨0, _⟩ => rfl | ⟨1, _⟩ => rfl | ⟨2, _⟩ => rfl

/-- One threshold's step at an entry. -/
theorem step_apply (x : Vec Ideal S32x8x128 .f32) (t y : Vec Ideal S1x8x128 .f32) (v : FVec Ideal S32x8x128 .f32)
    (r : Fin 32) (s : Fin 8) (l : Fin 128) :
    step x t y v (ix3 r s l) = if t (ix3 0 s l) < x (ix3 r s l) then y (ix3 0 s l) else v (ix3 r s l) := by
  unfold step
  rw [select_apply, cmpf_apply, shapeCast_self, shapeCast_self, shapeCast_self, shapeCast_self, row_apply, row_apply]
  by_cases h : t (ix3 0 s l) < x (ix3 r s l)
  · rw [if_pos h]
    have e : FloatOps.cmpf (F := Ideal) (φ := .f32) .ogt (x (ix3 r s l)) (t (ix3 0 s l)) = 1#1 := by
      show BitVec.ofBool (decide _) = _
      rw [decide_eq_true h]; rfl
    rw [e, select_one]
  · rw [if_neg h]
    have e : FloatOps.cmpf (F := Ideal) (φ := .f32) .ogt (x (ix3 r s l)) (t (ix3 0 s l)) = 0#1 := by
      show BitVec.ofBool (decide _) = _
      rw [decide_eq_false h]; rfl
    rw [e, select_zero]

/-- Before any threshold the level is the lowest. -/
theorem quant_zero (x : Vec Ideal S32x8x128 .f32) (t y : ℕ → Vec Ideal S1x8x128 .f32) :
    quant x t y 0 = broadcastTo S32x8x128 (shapeCast S1x8x128 (shapeCast S1x8x128 (y 0) shapeCasts_S1x8x128_S1x8x128)
      shapeCasts_S1x8x128_S1x8x128) broadcasts_S1x8x128_S32x8x128 := rfl

/-- One more threshold is one more step. -/
theorem quant_succ (x : Vec Ideal S32x8x128 .f32) (t y : ℕ → Vec Ideal S1x8x128 .f32) (k : ℕ) :
    quant x t y (k + 1) = step x (t k) (y (k + 1)) (quant x t y k) := rfl

/-- The levels after `k` thresholds at an entry: the walk over the first `k`. -/
theorem quant_apply (x : Vec Ideal S32x8x128 .f32) (t y : ℕ → Vec Ideal S1x8x128 .f32) (r : Fin 32) (s : Fin 8) (l : Fin 128) :
    ∀ (k : ℕ) (hk : k ≤ 23), quant x t y k (ix3 r s l) =
      Spec.chain (fun j => t j (ix3 0 s l)) (fun j => y j (ix3 0 s l)) (x (ix3 r s l)) k hk
  | 0, _ => by
    rw [quant_zero, row_apply, shapeCast_self, shapeCast_self]
    rfl
  | k + 1, hk => by
    rw [quant_succ, step_apply, quant_apply x t y r s l k (Nat.le_of_succ_le hk), Spec.chain]

/-- The sum of the first `n` chunks' levels at an entry. -/
theorem sums_apply (q : ℕ → FVec Ideal S32x8x128 .f32) (i : S32x8x128.Idx) :
    ∀ n, sums q n i = ∑ c : Fin n, q c i
  | 0 => by
    show Ideal.ofBits .f32 0x00000000#32 = _
    rw [Ideal.ofBits_zero_f32]; simp
  | n + 1 => by
    show sums q n i + q n i = _
    rw [sums_apply q i n, Fin.sum_univ_castSucc]; rfl

/-- The sum of the squares of the first `n` chunks' levels at an entry. -/
theorem squares_apply (q : ℕ → FVec Ideal S32x8x128 .f32) (i : S32x8x128.Idx) :
    ∀ n, squares q n i = ∑ c : Fin n, q c i * q c i
  | 0 => by
    show Ideal.ofBits .f32 0x00000000#32 = _
    rw [Ideal.ofBits_zero_f32]; simp
  | n + 1 => by
    show squares q n i + q n i * q n i = _
    rw [squares_apply q i n, Fin.sum_univ_castSucc]; rfl

/-- The lanes' average at a row: the sum over the lanes times 1/4096. -/
theorem avg_apply (v : FVec Ideal S32x8x128 .f32) (r : Fin 32) (s : Fin 8) :
    avg v (ix3 r s 0) = (∑ l : Fin 128, v (ix3 r s l)) * (((1 : ℝ) / 4096 : ℝ) : EReal) := by
  show shapeCast S32x8x1 _ _ (ix3 r s 0) * Ideal.ofBits .f32 0x39800000#32 = _
  rw [Spec.ofBits_inv4096]
  refine congrArg (· * _) ?_
  refine (shapeCast_apply _ _ _ (ix2 r s) ?_).trans ?_
  · rw [Shape.rowMajor_val_two, Shape.rowMajor_val_three]; simp
  · refine (Ideal.multiReduction_add_single v _ _ _ _ (ix2 r s)).trans ?_
    refine Finset.sum_congr rfl fun l _ => congrArg v ?_
    funext a
    match a with | ⟨0, _⟩ => rfl | ⟨1, _⟩ => rfl | ⟨2, _⟩ => rfl

/-- What the second pass stores at an entry. -/
theorem final_apply (q : ℕ → FVec Ideal S32x8x128 .f32) (v : Vec Ideal S32x8x128 .f32) (g b : Vec Ideal S1x8x128 .f32)
    (r : Fin 32) (s : Fin 8) (l : Fin 128) :
    final q v g b (ix3 r s l) = (v (ix3 r s l) - avg (sums q 32) (ix3 r s 0)) * inv q (ix3 r s 0) * g (ix3 0 s l) + b (ix3 0 s l) := by
  unfold final
  rw [addf_apply, mulf_apply, mulf_apply, subf_apply, shapeCast_self, shapeCast_self, shapeCast_self, row_apply, row_apply,
    col_apply, col_apply]

/-- The reciprocal root at a row. -/
theorem inv_apply (q : ℕ → FVec Ideal S32x8x128 .f32) (i : S32x8x1.Idx) :
    inv q i = Ideal.rsqrt (avg (squares q 32) i - avg (sums q 32) i * avg (sums q 32) i + Spec.eps) := rfl

/-- Where the 32 chunks of levels of a row are the reals `w`, what the second pass stores is `w` normalized. -/
theorem final_eq_normed (q : ℕ → FVec Ideal S32x8x128 .f32) (g b : Vec Ideal S1x8x128 .f32) (r : Fin 32) (s : Fin 8)
    (w : Fin 4096 → ℝ) (hw : ∀ (c : Fin 32) (l : Fin 128), q c (ix3 r s l) = (w ⟨128 * c.val + l.val, by omega⟩ : EReal))
    (c : Fin 32) (l : Fin 128) :
    final q (q c) g b (ix3 r s l) =
      Spec.normed w (g (ix3 0 s l)) (b (ix3 0 s l)) ⟨128 * c.val + l.val, by omega⟩ := by
  have e1 : avg (sums q 32) (ix3 r s 0) = (Spec.mean w : EReal) := by
    rw [avg_apply]
    simp only [sums_apply, hw, Spec.coe_sum]
    rw [← EReal.coe_mul, ← Spec.sum_lanes w, mul_one_div]; rfl
  have e2 : avg (squares q 32) (ix3 r s 0) = (((∑ h, w h * w h) / 4096 : ℝ) : EReal) := by
    rw [avg_apply]
    simp only [squares_apply, hw, ← EReal.coe_mul, Spec.coe_sum]
    rw [← Spec.sum_lanes (fun h => w h * w h), mul_one_div]
  have e3 : avg (squares q 32) (ix3 r s 0) - avg (sums q 32) (ix3 r s 0) * avg (sums q 32) (ix3 r s 0) = (Spec.var w : EReal) := by
    rw [e1, e2, ← EReal.coe_mul, ← EReal.coe_sub, ← Spec.var_eq]
  rw [final_apply, inv_apply, e3, e1, hw]
  rfl

end Cert.KernelIdeal.Body

end
-- ==== Proof.KernelValue.lean ====
/-
  What the kernel's program leaves in its result on the extended reals, with usable tables: the levels of the rows,
  normalized. The windows' arrays are read off the host operations before the region, the body's block is read from its
  pieces, and the blocks cover the array; the reshape after the region puts it in the result's shape.
-/
module

public import proofs.«01_k».proof.Proof.Body
public import proofs.«01_k».proof.Proof.Gen.KernelIdeal.Frame
public import Idealize.ShloMosaic.Lib.StableHlo.Run

@[expose] public section

set_option maxRecDepth 16384

noncomputable section

namespace Cert.KernelIdeal.Body

open Cert.KernelIdeal Cert.KernelIdeal.Gen Cert.KernelIdeal.Facts Idealize.ShloMosaic.ValueIdx Idealize.SL.Sem
open Idealize.ShloMosaic.TcCoe
open Idealize.ShloMosaic hiding ix1 ix2 ix3 eq_ix3 addf_apply mulf_apply subf_apply

/-! ## The loads, entry by entry -/

section
variable (arg1 : Memref sig .tc .vmem S23x8x4096 .f32) (harg1 : arg1.IsWhole) (arg2 : Memref sig .tc .vmem S24x8x4096 .f32)
  (harg2 : arg2.IsWhole) (arg3 : Memref sig .tc .vmem S1x8x4096 .f32) (harg3 : arg3.IsWhole)
  (arg5 : Memref sig .tc .vmem S32x8x4096 .f32) (harg5 : arg5.IsWhole)
  (x0 : Vec Ideal S23x8x4096 .f32) (x1 : Vec Ideal S24x8x4096 .f32) (x2 : Vec Ideal S1x8x4096 .f32)
  (x4 : Vec Ideal S32x8x4096 .f32) (c : Fin 32) (s : Fin 8) (l : Fin 128)

/-- Lane `l` of chunk `c`, as a channel. -/
abbrev chan : Fin 4096 := ⟨128 * c.val + l.val, by omega⟩

/-- The load of threshold `j` at an entry. -/
theorem loadT_apply (j : Fin 23) : loadT arg1 harg1 x0 c j (ix3 0 s l) = x0 (ix3 j s (chan c l)) := by
  refine (harg1.readAt_unread x0 _ _).trans (congrArg x0 (funext fun a => Fin.ext ?_))
  refine (Rect.idx_unit_val _ _ _ _ a).trans ?_
  match a with
  | ⟨0, _⟩ => show j.val % 23 + 0 = j.val; omega
  | ⟨1, _⟩ => show 0 + s.val = s.val; omega
  | ⟨2, _⟩ => show 128 * (c.val % 32) + l.val = 128 * c.val + l.val; omega

/-- The load of level `j` at an entry. -/
theorem loadY_apply (j : Fin 24) : loadY arg2 harg2 x1 c j (ix3 0 s l) = x1 (ix3 j s (chan c l)) := by
  refine (harg2.readAt_unread x1 _ _).trans (congrArg x1 (funext fun a => Fin.ext ?_))
  refine (Rect.idx_unit_val _ _ _ _ a).trans ?_
  match a with
  | ⟨0, _⟩ => show j.val % 24 + 0 = j.val; omega
  | ⟨1, _⟩ => show 0 + s.val = s.val; omega
  | ⟨2, _⟩ => show 128 * (c.val % 32) + l.val = 128 * c.val + l.val; omega

/-- The load of a scale or shift at an entry. -/
theorem loadG_apply : loadG arg3 harg3 x2 c (ix3 0 s l) = x2 (ix3 0 s (chan c l)) := by
  refine (harg3.readAt_unread x2 _ _).trans (congrArg x2 (funext fun a => Fin.ext ?_))
  refine (Rect.idx_unit_val _ _ _ _ a).trans ?_
  match a with
  | ⟨0, _⟩ => rfl
  | ⟨1, _⟩ => show 0 + s.val = s.val; omega
  | ⟨2, _⟩ => show 128 * (c.val % 32) + l.val = 128 * c.val + l.val; omega

/-- A place of chunk `c`, as a place of the block. -/
theorem emb_chunk (r : Fin 32) : (chunk c).emb (ix3 r s l) = ix3 r s (chan c l) := by
  funext a
  refine Fin.ext ((ValueKit.rect_emb_unit_val _ _ _ _ a).trans ?_)
  match a with
  | ⟨0, _⟩ => show 0 + r.val = r.val; omega
  | ⟨1, _⟩ => show 0 + s.val = s.val; omega
  | ⟨2, _⟩ => show 128 * (c.val % 32) + l.val = 128 * c.val + l.val; omega

/-- The load of a chunk of the rows at an entry. -/
theorem loadX_apply (r : Fin 32) : loadX arg5 harg5 x4 c (ix3 r s l) = x4 (ix3 r s (chan c l)) :=
  (harg5.readAt_unread x4 _ _).trans (congrArg x4 (emb_chunk c s l r))

/-- The levels of a chunk at an entry: the walk over the channel's thresholds. -/
theorem levels_apply (r : Fin 32) : levels arg1 harg1 arg2 harg2 arg5 harg5 x0 x1 x4 c (ix3 r s l) =
    Spec.chain (fun j => x0 (ix3 j s (chan c l))) (fun j => x1 (ix3 j s (chan c l))) (x4 (ix3 r s (chan c l))) 23 le_rfl := by
  unfold levels
  rw [quant_apply _ _ _ r s l 23 le_rfl]
  simp only [loadT_apply, loadY_apply, loadX_apply]

end

/-! ## The block the body leaves -/

/-- A channel is a lane of a chunk. -/
theorem exists_chan (h : Fin 4096) : ∃ (c : Fin 32) (l : Fin 128), h = chan c l :=
  ⟨⟨h.val / 128, by omega⟩, ⟨h.val % 128, by omega⟩, Fin.ext (by show h.val = 128 * (h.val / 128) + h.val % 128; omega)⟩

/-- Where a row of the block's levels are the reals `w`, the body leaves `w` normalized in that row. -/
theorem out_apply (d : Dev nD) (i : grid0.Coords) (arg1 : Memref sig .tc .vmem S23x8x4096 .f32) (harg1 : arg1.IsWhole)
    (arg2 : Memref sig .tc .vmem S24x8x4096 .f32) (harg2 : arg2.IsWhole) (arg3 : Memref sig .tc .vmem S1x8x4096 .f32)
    (harg3 : arg3.IsWhole) (arg4 : Memref sig .tc .vmem S1x8x4096 .f32) (harg4 : arg4.IsWhole)
    (arg5 : Memref sig .tc .vmem S32x8x4096 .f32) (harg5 : arg5.IsWhole) (arg6 : Memref sig .tc .vmem S32x8x4096 .f32)
    (harg6 : arg6.IsWhole) (x0 : Vec Ideal S23x8x4096 .f32) (x1 : Vec Ideal S24x8x4096 .f32)
    (x2 x3 : Vec Ideal S1x8x4096 .f32) (x4 : Vec Ideal S32x8x4096 .f32) (r : Fin 32) (s : Fin 8) (w : Fin 4096 → ℝ)
    (hw : ∀ h : Fin 4096, Spec.chain (fun j => x0 (ix3 j s h)) (fun j => x1 (ix3 j s h)) (x4 (ix3 r s h)) 23 le_rfl = (w h : EReal))
    (h : Fin 4096) :
    out0_A_5 (F := Ideal) d i arg1 harg1 arg2 harg2 arg3 harg3 arg4 harg4 arg5 harg5 arg6 harg6 x0 x1 x2 x3 x4 (ix3 r s h) =
      Spec.normed w (x2 (ix3 0 s h)) (x3 (ix3 0 s h)) h := by
  obtain ⟨c, l, rfl⟩ := exists_chan h
  unfold out0_A_5
  rw [View.read_writes_junk_eq_canon, pieces_eq, ← emb_chunk c s l r, canon_second _ _ _ _ c.val _ 32 le_rfl c.isLt,
    final_eq_normed _ _ _ r s w (fun c l => (levels_apply _ _ _ _ _ _ _ _ _ c s l r).trans (hw _)) c l,
    loadG_apply, loadG_apply]

/-! ## The windows' arrays as the region finds them -/

section
variable (m : (ℓ : Loc nD τ sig) → Buf (Elt Ideal) ℓ) (d : Dev nD)

/-- The program's arguments: the rows, the thresholds, the levels, the scales and the shifts. -/
abbrev argX : S2x4096x4096.Idx → EReal := m ((d : Thread nD τ).loc main_arg0)
abbrev argT : S4096x23.Idx → EReal := m ((d : Thread nD τ).loc main_arg1)
abbrev argY : S4096x24.Idx → EReal := m ((d : Thread nD τ).loc main_arg2)
abbrev argG : S4096.Idx → EReal := m ((d : Thread nD τ).loc main_arg3)
abbrev argB : S4096.Idx → EReal := m ((d : Thread nD τ).loc main_arg4)

/-- The rows in groups of eight. -/
theorem entry_x : V m d main_v0 = shapeCast S1024x8x4096 (argX m d) shapeCasts_S2x4096x4096_S1024x8x4096 := by
  show StableHlo.after hostOps0 _ _ = _
  after_results
  rfl

/-- The thresholds, threshold by threshold, each repeated over the eight. -/
theorem entry_t : V m d main_v3 = broadcastInDim S23x8x4096 ![0, 1, 2] bcast_S23x1x4096_S23x8x4096_0_1_2
    (broadcastInDim S23x1x4096 ![0, 2] bcast_S23x4096_S23x1x4096_0_2
      (transpose S23x4096 [1, 0] (argT m d) transposes_S4096x23_S23x4096_1_0)) := by
  show StableHlo.after hostOps0 _ _ = _
  after_results

/-- The levels, level by level, each repeated over the eight. -/
theorem entry_y : V m d main_v6 = broadcastInDim S24x8x4096 ![0, 1, 2] bcast_S24x1x4096_S24x8x4096_0_1_2
    (broadcastInDim S24x1x4096 ![0, 2] bcast_S24x4096_S24x1x4096_0_2
      (transpose S24x4096 [1, 0] (argY m d) transposes_S4096x24_S24x4096_1_0)) := by
  show StableHlo.after hostOps0 _ _ = _
  after_results

/-- The scales, repeated over the eight. -/
theorem entry_g : V m d main_v8 = broadcastInDim S1x8x4096 ![0, 1, 2] bcast_S1x1x4096_S1x8x4096_0_1_2
    (broadcastInDim S1x1x4096 ![2] bcast_S4096_S1x1x4096_2 (argG m d)) := by
  show StableHlo.after hostOps0 _ _ = _
  after_results

/-- The shifts, repeated over the eight. -/
theorem entry_b : V m d main_v10 = broadcastInDim S1x8x4096 ![0, 1, 2] bcast_S1x1x4096_S1x8x4096_0_1_2
    (broadcastInDim S1x1x4096 ![2] bcast_S4096_S1x1x4096_2 (argB m d)) := by
  show StableHlo.after hostOps0 _ _ = _
  after_results

/-- Threshold `j` of channel `h` as the region finds it. -/
theorem entry_t_apply (j : Fin 23) (s : Fin 8) (h : Fin 4096) : V m d main_v3 (ix3 j s h) = argT m d (ix2 h j) := by
  rw [entry_t]
  refine (broadcastInDim_apply _ _ _ _ (ix3 j 0 h) fun a => match a with | ⟨0, _⟩ => rfl | ⟨1, _⟩ => rfl | ⟨2, _⟩ => rfl).trans ?_
  refine (broadcastInDim_apply _ _ _ _ (ix2 j h) fun a => match a with | ⟨0, _⟩ => rfl | ⟨1, _⟩ => rfl).trans ?_
  exact transpose_apply _ _ _ _ (ix2 h j) fun a => match a with | ⟨0, _⟩ => rfl | ⟨1, _⟩ => rfl

/-- Level `j` of channel `h` as the region finds it. -/
theorem entry_y_apply (j : Fin 24) (s : Fin 8) (h : Fin 4096) : V m d main_v6 (ix3 j s h) = argY m d (ix2 h j) := by
  rw [entry_y]
  refine (broadcastInDim_apply _ _ _ _ (ix3 j 0 h) fun a => match a with | ⟨0, _⟩ => rfl | ⟨1, _⟩ => rfl | ⟨2, _⟩ => rfl).trans ?_
  refine (broadcastInDim_apply _ _ _ _ (ix2 j h) fun a => match a with | ⟨0, _⟩ => rfl | ⟨1, _⟩ => rfl).trans ?_
  exact transpose_apply _ _ _ _ (ix2 h j) fun a => match a with | ⟨0, _⟩ => rfl | ⟨1, _⟩ => rfl

/-- A row of 4096 repeated over the eight, read at an entry. -/
theorem spread_apply (v : S4096.Idx → EReal) (s : Fin 8) (h : Fin 4096) :
    broadcastInDim S1x8x4096 ![0, 1, 2] bcast_S1x1x4096_S1x8x4096_0_1_2
      (broadcastInDim S1x1x4096 ![2] bcast_S4096_S1x1x4096_2 v) (ix3 0 s h) = v (ix1 h) := by
  refine (broadcastInDim_apply _ _ _ _ (ix3 0 0 h) fun a => match a with | ⟨0, _⟩ => rfl | ⟨1, _⟩ => rfl | ⟨2, _⟩ => rfl).trans ?_
  exact broadcastInDim_apply _ _ _ _ (ix1 h) fun a => match a with | ⟨0, _⟩ => rfl

end

/-! ## The windows' blocks -/

/-- The tables' windows stay on their one block; -/
theorem index0 : ∀ (t : Fin cfg0.N) (a : Fin 3), win0_0.index t a = 0 := (by decide +kernel : ∀ (t : Fin grid0.N) (a : Fin 3), _)
theorem index1 : ∀ (t : Fin cfg0.N) (a : Fin 3), win0_1.index t a = 0 := (by decide +kernel : ∀ (t : Fin grid0.N) (a : Fin 3), _)
theorem index2 : ∀ (t : Fin cfg0.N) (a : Fin 3), win0_2.index t a = 0 := (by decide +kernel : ∀ (t : Fin grid0.N) (a : Fin 3), _)
theorem index3 : ∀ (t : Fin cfg0.N) (a : Fin 3), win0_3.index t a = 0 := (by decide +kernel : ∀ (t : Fin grid0.N) (a : Fin 3), _)
/-- the rows' windows are at block `t` of the first axis. -/
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Row `r` of block `t`, as a row of the array. -/
abbrev rowOf (t : Fin cfg0.N) (r : Fin 32) : Fin 1024 :=
  ⟨32 * t.val + r.val, by have h : t.val < 32 := t.isLt; omega⟩

section
variable (m : (ℓ : Loc nD τ sig) → Buf (Elt Ideal) ℓ) (d : Dev nD) (t : Fin cfg0.N)

/-- An entry of the thresholds' block. -/
theorem iblk0_apply (j : Fin 23) (s : Fin 8) (h : Fin 4096) : iblk m d 0 t (ix3 j s h) = argT m d (ix2 h j) := by
  refine Eq.trans ?_ (entry_t_apply m d j s h)
  refine congrArg (V m d main_v3) (funext fun a => Fin.ext ?_)
  exact win0_0.rect_emb_val_of_index_zero t a (index0 t a) _

/-- An entry of the levels' block. -/
theorem iblk1_apply (j : Fin 24) (s : Fin 8) (h : Fin 4096) : iblk m d 1 t (ix3 j s h) = argY m d (ix2 h j) := by
  refine Eq.trans ?_ (entry_y_apply m d j s h)
  refine congrArg (V m d main_v6) (funext fun a => Fin.ext ?_)
  exact win0_1.rect_emb_val_of_index_zero t a (index1 t a) _

/-- An entry of the scales' block. -/
theorem iblk2_apply (s : Fin 8) (h : Fin 4096) : iblk m d 2 t (ix3 0 s h) = argG m d (ix1 h) := by
  refine Eq.trans ?_ ((congrFun (entry_g m d) (ix3 0 s h)).trans (spread_apply (argG m d) s h))
  refine congrArg (V m d main_v8) (funext fun a => Fin.ext ?_)
  exact win0_2.rect_emb_val_of_index_zero t a (index2 t a) _

/-- An entry of the shifts' block. -/
theorem iblk3_apply (s : Fin 8) (h : Fin 4096) : iblk m d 3 t (ix3 0 s h) = argB m d (ix1 h) := by
  refine Eq.trans ?_ ((congrFun (entry_b m d) (ix3 0 s h)).trans (spread_apply (argB m d) s h))
  refine congrArg (V m d main_v10) (funext fun a => Fin.ext ?_)
  exact win0_3.rect_emb_val_of_index_zero t a (index3 t a) _

/-- An entry of block `t` of the rows lies at row `32 t + r` of the array. -/
theorem emb4 (r : Fin 32) (s : Fin 8) (h : Fin 4096) : (win0_4.rect t).emb (ix3 r s h) = ix3 (rowOf t r) s h := by
  obtain ⟨e0, e1, e2⟩ := index4 t
  funext a
  refine Fin.ext ((win0_4.rect_emb_val t _ a).trans ?_)
  match a with
  | ⟨0, _⟩ => show win0_4.index t (0 : Fin 3) * 32 + r.val = 32 * t.val + r.val; omega
  | ⟨1, _⟩ => show win0_4.index t (1 : Fin 3) * 8 + s.val = s.val; omega
  | ⟨2, _⟩ => show win0_4.index t (2 : Fin 3) * 4096 + h.val = h.val; omega

/-- An entry of block `t` of the result lies at row `32 t + r` of the array. -/
theorem emb5 (r : Fin 32) (s : Fin 8) (h : Fin 4096) : (win0_5.rect t).emb (ix3 r s h) = ix3 (rowOf t r) s h := by
  obtain ⟨e0, e1, e2⟩ := index5 t
  funext a
  refine Fin.ext ((win0_5.rect_emb_val t _ a).trans ?_)
  match a with
  | ⟨0, _⟩ => show win0_5.index t (0 : Fin 3) * 32 + r.val = 32 * t.val + r.val; omega
  | ⟨1, _⟩ => show win0_5.index t (1 : Fin 3) * 8 + s.val = s.val; omega
  | ⟨2, _⟩ => show win0_5.index t (2 : Fin 3) * 4096 + h.val = h.val; omega

end

/-- Row `R` and place `s` of the rows in groups of eight, as the sequence and the position they are of. -/
abbrev seqOf (R : Fin 1024) (s : Fin 8) : Fin 2 := ⟨(R.val * 8 + s.val) / 4096, by omega⟩
abbrev posOf (R : Fin 1024) (s : Fin 8) : Fin 4096 := ⟨(R.val * 8 + s.val) % 4096, by omega⟩

/-- The rows in groups of eight, read at an entry. -/
theorem grouped_apply (v : S2x4096x4096.Idx → EReal) (R : Fin 1024) (s : Fin 8) (h : Fin 4096) :
    shapeCast S1024x8x4096 v shapeCasts_S2x4096x4096_S1024x8x4096 (ix3 R s h) = v (ix3 (seqOf R s) (posOf R s) h) := by
  refine shapeCast_apply _ _ _ _ ?_
  rw [Shape.rowMajor_val_three, Shape.rowMajor_val_three]
  show ((R.val * 8 + s.val) / 4096 * 4096 + (R.val * 8 + s.val) % 4096) * 4096 + h.val = (R.val * 8 + s.val) * 4096 + h.val
  omega

/-! ## The array the region leaves -/

section
variable (m : (ℓ : Loc nD τ sig) → Buf (Elt Ideal) ℓ) (d : Dev nD)

/-- The result as a function of the program's arguments. -/
abbrev value : S2x4096x4096.Idx → EReal := Spec.out (argX m d) (argT m d) (argY m d) (argG m d) (argB m d)

/-- The same with the rows in groups of eight: what the region's array ends as. -/
abbrev grouped : S1024x8x4096.Idx → EReal := shapeCast S1024x8x4096 (value m d) shapeCasts_S2x4096x4096_S1024x8x4096

variable {m d} (u : Spec.Usable (argT m d) (argY m d))
include u

/-- What the body leaves at point `t`, entry by entry. -/
theorem outsAt_apply (t : Fin cfg0.N) (r : Fin 32) (s : Fin 8) (h : Fin 4096) :
    outsAt0 m d t (ix3 r s h) = grouped m d (ix3 (rowOf t r) s h) := by
  have e4 : ∀ h : Fin 4096, iblk m d 4 t (ix3 r s h) = argX m d (ix3 (seqOf (rowOf t r) s) (posOf (rowOf t r) s) h) := fun h => by
    refine Eq.trans ?_ ((congrFun (entry_x m d) (ix3 (rowOf t r) s h)).trans (grouped_apply _ _ _ _))
    exact congrArg (V m d main_v0) (emb4 t r s h)
  unfold outsAt0
  rw [out_apply _ _ _ _ _ _ _ _ _ _ _ _ _ _ _ _ _ _ _ r s
    (Spec.row (argX m d) (argT m d) (argY m d) (seqOf (rowOf t r) s) (posOf (rowOf t r) s)) (fun h => ?_) h,
    iblk2_apply, iblk3_apply]
  · exact (grouped_apply (value m d) (rowOf t r) s h).symm
  · rw [Spec.row_eq (argX m d) u, ← Spec.chain_eq_level (u.ascending h), e4]
    simp only [iblk0_apply, iblk1_apply]

/-- What point `t` writes back is its block of the result. -/
theorem flushed_eq (t : Fin cfg0.N) :
    (dats m 0 d).flushed 5 t = ((cfg0.win 5).blk t).view.read (Elt Ideal) (grouped m d) := by
  show (cfg0.win 5).cut (grid0.coords t) ((dats m 0 d).after 5 t) = _
  rw [after0_5]
  funext j
  obtain ⟨r, s, h, rfl⟩ : ∃ (r : Fin 32) (s : Fin 8) (h : Fin 4096), j = ix3 r s h := ⟨j 0, j 1, j 2, eq_ix3 j⟩
  refine (outsAt_apply u t r s h).trans ?_
  exact (congrArg (grouped m d) (emb5 t r s h)).symm

omit u in
/-- Every entry of the array is in some point's block. -/
theorem covered (i : S1024x8x4096.Idx) :
    ∃ t : Fin cfg0.N, (cfg0.win 5).flush t = true ∧ i ∈ ((cfg0.win 5).blk t).view.set := by
  obtain ⟨R, s, h, rfl⟩ : ∃ (R : Fin 1024) (s : Fin 8) (h : Fin 4096), i = ix3 R s h := ⟨i 0, i 1, i 2, eq_ix3 i⟩
  let t : Fin cfg0.N := ⟨R.val / 32, by show R.val / 32 < 32; omega⟩
  let r : Fin 32 := ⟨R.val % 32, by omega⟩
  refine ⟨t, flush0_5 t, ?_⟩
  have e : (win0_5.rect t).emb (ix3 r s h) = ix3 R s h :=
    (emb5 t r s h).trans (congrArg (fun q : Fin 1024 => ix3 q s h) (Fin.ext (Nat.div_add_mod R.val 32)))
  exact e ▸ ((cfg0.win 5).blk t).view.emb_mem_set (ix3 r s h)

/-- The region's array ends as the result with the rows in groups of eight. -/
theorem array_eq : (dats m 0 d).arrAt 5 cfg0.N = grouped m d :=
  (dats m 0 d).arrAt_eq_of_cover 5 (grouped m d) (fun t _ => flushed_eq u t) covered

/-- After the reshape the result holds the value. -/
theorem tail_eq : Pipeline.afterTail₀ cfgs (dats m) 0 (V0 m) [hostOps1] d main_v12 = value m d := by
  show StableHlo.after hostOps1 _ (Proc.devRef .tc main_v12) = _
  after_results
  have e : Pipeline.withArrays spec0 d (V0 m d) (fun w => (dats m 0 d).arrAt w cfg0.N) (Proc.devRef .tc main_v11) = grouped m d :=
    (Pipeline.withArrays_arr spec0 winFacts0.arr_inj d (V0 m d) _ 5).trans (array_eq u)
  exact (congrArg (fun v => shapeCast S2x4096x4096 v shapeCasts_S1024x8x4096_S2x4096x4096) e).trans (shapeCast_shapeCast _ _ _)

end

/-- With usable tables the program runs, leaves the value in its result and its arguments as they were. -/
theorem run (m : (ℓ : Loc nD τ sig) → Buf (Elt Ideal) ℓ) (ρ : Dev nD → PrngReg)
    (u : ∀ d, Spec.Usable (argT m d) (argY m d)) :
    θ_run defs (onTc (τ := τ) (main (F := Ideal))) ⟨m, fun _ => 0, ρ⟩ fun r => ∀ d : Dev nD,
      r.2.mem ((d : Thread nD τ).loc main_v12) = value m d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4) :=
  (θ_run defs _ _).mono (fun _ h d => ⟨((h.1 d).2 main_v12 (by decide)).trans (tail_eq (u d)), h.2 d⟩)
    (θ_run_and (run_main m ρ) (unchanged m ρ))

end Cert.KernelIdeal.Body

end
-- ==== Proof.ReferenceValue.lean ====
/-
  What the reference leaves in its result on the extended reals, with usable tables. Each entry's count of thresholds
  below it numbers its level; the level is gathered from the table; each row of levels is then normalized.
-/
module

public import proofs.«01_k».proof.Proof.Spec
public import proofs.«01_k».proof.Proof.Gen.ReferenceIdeal.Read
public import Idealize.ShloMosaic.Lib.IdealHost
public import Idealize.ShloMosaic.Lib.IndicatorCount
public import Idealize.ShloMosaic.Lib.ReduceAll
public import Idealize.ShloMosaic.Lib.StableHlo.Predicate

@[expose] public section

set_option maxRecDepth 16384

noncomputable section

namespace Cert.ReferenceIdeal.Rows

open Cert.ReferenceIdeal Cert.ReferenceIdeal.Gen Cert.ReferenceIdeal.Read Idealize.ShloMosaic.ValueIdx Idealize.SL.Sem
open Idealize.ShloMosaic.TcCoe
open Idealize.ShloMosaic

variable (x : S2x4096x4096.Idx → EReal) (t : S4096x23.Idx → EReal) (y : S4096x24.Idx → EReal) (g b : S4096.Idx → EReal)

/-- The sequence row `q` of the flattened rows lies in. -/
abbrev seqOf (q : Fin 8192) : Fin 2 := ⟨q.val / 4096, by omega⟩
/-- Its place in that sequence. -/
abbrev posOf (q : Fin 8192) : Fin 4096 := ⟨q.val % 4096, by omega⟩

/-! ## The count -/

/-- The entry compared, at row `q` and channel `h`, against each threshold. -/
theorem entry_apply (q : Fin 8192) (h : Fin 4096) (k : Fin 23) :
    val_main_v3 (F := Ideal) x (ix3 q h k) = x (ix3 (seqOf q) (posOf q) h) := by
  rw [val_main_v3_apply, val_main_v1_apply, val_main_v0_apply]
  refine congrArg x (funext fun a => Fin.ext ?_)
  match a with
  | ⟨0, _⟩ => show (q.val * 4096 + h.val) / 16777216 = q.val / 4096; omega
  | ⟨1, _⟩ => show (q.val * 4096 + h.val) / 4096 % 4096 = q.val % 4096; omega
  | ⟨2, _⟩ => show (q.val * 4096 + h.val) % 4096 = h.val; omega

/-- The threshold it is compared with is the channel's. -/
theorem threshold_apply (q : Fin 8192) (h : Fin 4096) (k : Fin 23) :
    val_main_v4 (F := Ideal) t (ix3 q h k) = t (ix2 h k) := by
  rw [val_main_v4_apply, val_main_v2_apply]
  refine congrArg t (funext fun a => Fin.ext ?_)
  match a with
  | ⟨0, _⟩ => rfl
  | ⟨1, _⟩ => rfl

/-- The comparison's bit is set when the threshold lies below the entry. -/
theorem above_iff (q : Fin 8192) (h : Fin 4096) (k : Fin 23) :
    val_main_v5 (F := Ideal) x t (ix3 q h k) = 1#1 ↔ t (ix2 h k) < x (ix3 (seqOf q) (posOf q) h) := by
  rw [val_main_v5_apply, entry_apply, threshold_apply]
  show BitVec.ofBool (decide _) = 1#1 ↔ _
  rw [StableHlo.Predicate.ofBool_eq_one_iff, decide_eq_true_iff]

/-- How many of the channel's thresholds lie below the entry at row `q` and channel `h`. -/
abbrev count (q : Fin 8192) (h : Fin 4096) : ℕ := Spec.below (fun k => t (ix2 h k)) (x (ix3 (seqOf q) (posOf q) h))

/-- The sum of the comparisons is that count. -/
theorem sum_apply (q : Fin 8192) (h : Fin 4096) : val_main_v7 (F := Ideal) x t (ix2 q h) = BitVec.ofNat 32 (count x t q h) := by
  unfold val_main_v7
  refine (Host.reduce_eq_fold_single IntOp.addi _ _ reducesTo_S8192x4096x23_S8192x4096_d2 (by decide) h_S_ _).trans ?_
  refine (Finset.fold_congr (g := fun k : Fin 23 => (val_main_v5 (F := Ideal) x t (ix3 q h k)).setWidth 32) fun k _ => ?_).trans
    ((IndicatorCount.fold_addi_setWidth_eq_card _ _).trans ?_)
  · refine congrArg (val_main_v6 (F := Ideal) x t) (funext fun a => Fin.ext ?_)
    match a with
    | ⟨0, _⟩ => rfl
    | ⟨1, _⟩ => rfl
    | ⟨2, _⟩ => rfl
  · exact congrArg (fun s => BitVec.ofNat 32 (Finset.card s)) (Finset.filter_congr fun k _ => above_iff x t q h k)

/-! ## The level the count numbers -/

/-- A number below 24 clipped to lie from 0 to 23 is itself. -/
theorem clip_eq (n : Fin 24) : IntOp.minsi 23#32 (IntOp.maxsi 0#32 (BitVec.ofNat 32 n.val)) = BitVec.ofNat 32 n.val := by
  revert n; decide

/-- A number below 24 is not negative, so it is not counted from the table's end. -/
theorem wrap_eq (n : Fin 24) : Scalar.select (IntOp.cmpi .slt (BitVec.ofNat 32 n.val) 0#32)
    (IntOp.addi (BitVec.ofNat 32 n.val) 24#32) (BitVec.ofNat 32 n.val) = BitVec.ofNat 32 n.val := by
  revert n; decide

/-- A number below 24 passes the check that it lies in the table. -/
theorem check_eq (n : Fin 24) : IntOp.andi (IntOp.cmpi .sge (BitVec.ofNat 32 n.val) 0#32)
    (IntOp.cmpi .sle (BitVec.ofNat 32 n.val) 23#32) = 1#1 := by
  revert n; decide

/-- A number below 24, read signed and kept inside the table, is itself. -/
theorem place_eq (n : Fin 24) : min (BitVec.ofNat 32 n.val).toInt.toNat 23 = n.val := by
  revert n; decide

/-- The level's number at channel `h` and row `q`, as the gather is given it, is the count. -/
theorem number_apply (h : Fin 4096) (q : Fin 8192) :
    val_main_call1_v5 (F := Ideal) x t (ix3 h q 0) = BitVec.ofNat 32 (count x t q h) := by
  have e : idx_main_call1_v5 (ix3 h q 0) = ix2 h q := by
    funext a; refine Fin.ext ?_
    match a with
    | ⟨0, _⟩ => show ((h.val * 8192 + q.val) * 1 + 0) / 8192 = h.val; omega
    | ⟨1, _⟩ => show ((h.val * 8192 + q.val) * 1 + 0) % 8192 = q.val; omega
  have e9 : val_main_v9 (F := Ideal) x t (ix2 h q) = BitVec.ofNat 32 (count x t q h) := by
    rw [val_main_v9_apply]
    have e' : idx_main_v9 (ix2 h q) = ix2 q h := by
      funext a
      match a with
      | ⟨0, _⟩ => rfl
      | ⟨1, _⟩ => rfl
    rw [e', val_main_v8_apply, val_main_call0_v2_apply, sum_apply, val_main_call0_v4_apply, val_main_call0_v1_apply]
    exact clip_eq ⟨_, Spec.below_lt _ _⟩
  rw [val_main_call1_v5_apply, e, val_main_call1_v4_apply, val_main_call1_v1_apply, val_main_call1_v3_apply, e9,
    val_main_call1_v0_apply, val_main_call1_v2_apply]
  exact wrap_eq ⟨_, Spec.below_lt _ _⟩

/-- Every number passes the check. -/
theorem checked_apply (i : S4096x8192.Idx) : val_main_call1_v12 (F := Ideal) x t i = 1#1 := by
  have e (h : Fin 4096) (q : Fin 8192) : val_main_call1_v11 (F := Ideal) x t (ix3 h q 0) = 1#1 := by
    rw [val_main_call1_v11_apply, val_main_call1_v7_apply, val_main_call1_v10_apply, number_apply, val_main_call1_v6_apply,
      val_main_call1_v9_apply, val_main_call1_v8_apply]
    exact check_eq ⟨_, Spec.below_lt _ _⟩
  unfold val_main_call1_v12
  refine Host.reduce_andi_one _ _ _ _ _ rfl fun (k : S4096x8192x1.Idx) => ?_
  refine (congrArg (val_main_call1_v11 (F := Ideal) x t) (funext fun a => ?_)).trans (e (k 0) (k 1))
  match a with
  | ⟨0, _⟩ => rfl
  | ⟨1, _⟩ => rfl
  | ⟨2, _⟩ => exact Fin.ext (Nat.lt_one_iff.mp (k 2).isLt)

/-- The gather at channel `h` and row `q` is the channel's level at the number given, kept inside the table. -/
theorem gather_apply (n : IVec S4096x8192x1 32) (h : Fin 4096) (q : Fin 8192) :
    Host.gather gather_S4096x24_S4096x8192x1_S4096x8192_n_1_0_0_1_2_11 y n (ix2 h q)
      = y (ix2 h ⟨min (n (ix3 h q 0)).toInt.toNat 23, by omega⟩) := by
  let D := gather_S4096x24_S4096x8192x1_S4096x8192_n_1_0_0_1_2_11
  refine congrArg y (funext fun a => Fin.ext ?_)
  show D.start (ix2 h q) n a + D.batchCoord (ix2 h q) a + D.offCoord (ix2 h q) a = _
  have ha : a = 0 ∨ a = 1 := match a with
    | ⟨0, _⟩ => Or.inl rfl
    | ⟨1, _⟩ => Or.inr rfl
  rcases ha with rfl | rfl
  · rw [D.start_batching _ _ _ (List.mem_singleton.mpr rfl),
      D.offCoord_eq_zero _ _ (fun k => ((D.mem_sKept _).mp k).2 (List.mem_singleton.mpr rfl)), Nat.zero_add, Nat.add_zero]
    unfold GatherDims.batchCoord
    rw [dif_pos (show (0 : Fin 2) ∈ D.operandBatchingDims from List.mem_singleton.mpr rfl)]
    rfl
  · rw [D.batchCoord_eq_zero _ _ (fun k => absurd (List.mem_singleton.mp k) (show (1 : Fin 2) ≠ 0 by decide)),
      D.offCoord_eq_zero _ _ (fun k => ((D.mem_sKept _).mp k).1 (List.mem_singleton.mpr rfl)), Nat.add_zero]
    unfold GatherDims.start
    rw [dif_pos (show (1 : Fin 2) ∈ D.startIndexMap from List.mem_singleton.mpr rfl)]
    have e : D.siIdx (ix2 h q) ⟨List.idxOf (1 : Fin 2) D.startIndexMap,
        List.idxOf_lt_length_iff.2 (List.mem_singleton.mpr rfl)⟩ = ix3 h q 0 := by
      funext c; refine Fin.ext ?_
      match c with
      | ⟨0, _⟩ => rfl
      | ⟨1, _⟩ => rfl
      | ⟨2, _⟩ => rfl
    rw [e]
    rfl

/-- The levels, at row `q` and channel `h`: the level the entry there falls on. -/
theorem level_apply (q : Fin 8192) (h : Fin 4096) : val_main_v11 (F := Ideal) x t y (ix2 q h)
    = Spec.level (fun k => t (ix2 h k)) (fun k => y (ix2 h k)) (x (ix3 (seqOf q) (posOf q) h)) := by
  have e : idx_main_v11 (ix2 q h) = ix2 h q := by
    funext a
    match a with
    | ⟨0, _⟩ => rfl
    | ⟨1, _⟩ => rfl
  rw [val_main_v11_apply, e, val_main_v10_apply, checked_apply, select_one]
  unfold val_main_call1_v13
  rw [gather_apply]
  refine congrArg (fun k => y (ix2 h k)) (Fin.ext ?_)
  show min (val_main_call1_v5 (F := Ideal) x t (ix3 h q 0)).toInt.toNat 23 = _
  rw [number_apply]
  exact place_eq ⟨_, Spec.below_lt _ _⟩

/-! ## The normalization -/

variable {t y} (u : Spec.Usable t y)

/-- The levels of row `q`, as reals. -/
abbrev rowAt (t : S4096x23.Idx → EReal) (y : S4096x24.Idx → EReal) (q : Fin 8192) : Fin 4096 → ℝ :=
  Spec.row x t y (seqOf q) (posOf q)

include u in
/-- With usable tables the levels are those reals. -/
theorem real_apply (q : Fin 8192) (h : Fin 4096) : val_main_v11 (F := Ideal) x t y (ix2 q h) = (rowAt x t y q h : EReal) :=
  (level_apply x t y q h).trans (Spec.row_eq x u _ _ _).symm

/-- A zero word plus a sum of reals over a row, divided by 4096, is the real mean. -/
theorem mean_of_sum (r : Fin 4096 → ℝ) :
    Ideal.div (Ideal.ofBits .f32 0x00000000#32 + ∑ k, (r k : EReal)) ((4096 : ℝ) : EReal) = ((∑ k, r k) / 4096 : ℝ) := by
  rw [Ideal.ofBits_zero_f32, zero_add, Spec.coe_sum, Spec.div_4096]

include u in
/-- The mean subtracted in the numerator. -/
theorem mean_apply (q : Fin 8192) : val_main_v15 (F := Ideal) x t y (ix2 q 0) = (Spec.mean (rowAt x t y q) : EReal) := by
  rw [val_main_v15_apply, val_main_v13_apply, val_main_v12_apply, val_main_v14_apply]
  refine Eq.trans ?_ (mean_of_sum (rowAt x t y q))
  refine congrArg₂ Ideal.div (congrArg (_ + ·) (Finset.sum_congr rfl fun k _ => ?_)) Spec.ofBits_4096
  refine (congrArg (val_main_v11 (F := Ideal) x t y) (funext fun a => ?_)).trans (real_apply x u q k)
  match a with
  | ⟨0, _⟩ => rfl
  | ⟨1, _⟩ => rfl

include u in
/-- The mean the variance is taken about is the same. -/
theorem mean_apply' (q : Fin 8192) : val_main_call2_v3 (F := Ideal) x t y (ix2 q 0) = (Spec.mean (rowAt x t y q) : EReal) :=
  mean_apply x u q

include u in
/-- A level's squared distance from its row's mean. -/
theorem square_apply (q : Fin 8192) (h : Fin 4096) : val_main_call2_v6 (F := Ideal) x t y (ix2 q h)
    = (((rowAt x t y q h - Spec.mean (rowAt x t y q)) * (rowAt x t y q h - Spec.mean (rowAt x t y q)) : ℝ) : EReal) := by
  have e : val_main_call2_v5 (F := Ideal) x t y (ix2 q h) = ((rowAt x t y q h - Spec.mean (rowAt x t y q) : ℝ) : EReal) := by
    rw [val_main_call2_v5_apply, val_main_call2_v4_apply, real_apply x u, EReal.coe_sub]
    refine congrArg (fun v : EReal => (rowAt x t y q h : EReal) - v) ?_
    refine (congrArg (val_main_call2_v3 (F := Ideal) x t y) (funext fun a => ?_)).trans (mean_apply' x u q)
    match a with
    | ⟨0, _⟩ => rfl
    | ⟨1, _⟩ => rfl
  rw [val_main_call2_v6_apply, e, EReal.coe_mul]
  rfl

/-- The number of entries the squared distances are divided by. -/
theorem divisor (i : S_.Idx) : val_main_call2_v8 (F := Ideal) i = ((4096 : ℝ) : EReal) := by
  show Ideal.ofBits .f32 0x45800000#32 - (((0#32 : BitVec 32).toInt : ℝ) : EReal) = _
  rw [Spec.ofBits_4096]
  simp

include u in
/-- The variance. -/
theorem var_apply (q : Fin 8192) : val_main_v16 (F := Ideal) x t y (ix2 q 0) = (Spec.var (rowAt x t y q) : EReal) := by
  unfold val_main_v16
  have c : val_main_call2_v13 (F := Ideal) ix0 = 1#1 := by
    rw [val_main_call2_v13_apply, divisor]
    show BitVec.ofBool (decide (Ideal.ofBits .f32 0x00000000#32 < ((4096 : ℝ) : EReal))) = 1#1
    rw [Ideal.ofBits_zero_f32, decide_eq_true (by exact_mod_cast (by norm_num : (0 : ℝ) < 4096))]
    rfl
  show Scalar.select (broadcastInDim S8192x1 ![] bcast_S_S8192x1 (val_main_call2_v13 (F := Ideal)) (ix2 q 0)) _ _ = _
  rw [broadcastInDim_scalar_apply, c, select_one, val_main_call2_v12_apply, val_main_call2_v10_apply, val_main_call2_v9_apply,
    val_main_call2_v11_apply, divisor]
  refine Eq.trans ?_ (mean_of_sum fun h =>
    (rowAt x t y q h - Spec.mean (rowAt x t y q)) * (rowAt x t y q h - Spec.mean (rowAt x t y q)))
  refine congrArg (fun v => Ideal.div v ((4096 : ℝ) : EReal)) (congrArg (_ + ·) (Finset.sum_congr rfl fun k _ => ?_))
  refine (congrArg (val_main_call2_v6 (F := Ideal) x t y) (funext fun a => ?_)).trans (square_apply x u q k)
  match a with
  | ⟨0, _⟩ => rfl
  | ⟨1, _⟩ => rfl

include u in
/-- The flattened result at row `q` and channel `h`. -/
theorem flat_apply (q : Fin 8192) (h : Fin 4096) : val_main_v29 (F := Ideal) x t y g b (ix2 q h)
    = Spec.normed (rowAt x t y q) (g (ix1 h)) (b (ix1 h)) h := by
  have m : val_main_v17 (F := Ideal) x t y (ix2 q h) = (Spec.mean (rowAt x t y q) : EReal) := by
    rw [val_main_v17_apply]
    refine (congrArg (val_main_v15 (F := Ideal) x t y) (funext fun a => ?_)).trans (mean_apply x u q)
    match a with
    | ⟨0, _⟩ => rfl
    | ⟨1, _⟩ => rfl
  have s : val_main_v22 (F := Ideal) x t y (ix2 q h) = Ideal.rsqrt ((Spec.var (rowAt x t y q) : EReal) + Spec.eps) := by
    rw [val_main_v22_apply, val_main_v21_apply, val_main_v20_apply, val_main_v19_apply]
    refine congrArg (fun v : EReal => Ideal.rsqrt (v + Spec.eps)) ?_
    refine (congrArg (val_main_v16 (F := Ideal) x t y) (funext fun a => ?_)).trans (var_apply x u q)
    match a with
    | ⟨0, _⟩ => rfl
    | ⟨1, _⟩ => rfl
  have eg : val_main_v25 (F := Ideal) g (ix2 q h) = g (ix1 h) := by
    rw [val_main_v25_apply, val_main_v24_apply]
    exact congrArg g (funext fun a => match a with | ⟨0, _⟩ => rfl)
  have eb : val_main_v28 (F := Ideal) b (ix2 q h) = b (ix1 h) := by
    rw [val_main_v28_apply, val_main_v27_apply]
    exact congrArg b (funext fun a => match a with | ⟨0, _⟩ => rfl)
  rw [val_main_v29_apply, val_main_v26_apply, val_main_v23_apply, val_main_v18_apply, m, s, eg, eb, real_apply x u]
  rfl

include u in
/-- The reference's result is the rows of levels normalized. -/
theorem result_eq : val_main_v30 (F := Ideal) x t y g b = Spec.out x t y g b := by
  funext i
  have h0 : (i 0).val < 2 := (i 0).isLt
  have h1 : (i 1).val < 4096 := (i 1).isLt
  have h2 : (i 2).val < 4096 := (i 2).isLt
  have e : idx_main_v30 i = ix2 (n0 := 8192) (n1 := 4096) ⟨(i 0).val * 4096 + (i 1).val, by omega⟩ (i 2) := by
    funext a; refine Fin.ext ?_
    match a with
    | ⟨0, _⟩ => show (((i 0).val * 4096 + (i 1).val) * 4096 + (i 2).val) / 4096 = (i 0).val * 4096 + (i 1).val; omega
    | ⟨1, _⟩ => show (((i 0).val * 4096 + (i 1).val) * 4096 + (i 2).val) % 4096 = (i 2).val; omega
  have es : seqOf ⟨(i 0).val * 4096 + (i 1).val, by omega⟩ = i 0 := Fin.ext (by
    show ((i 0).val * 4096 + (i 1).val) / 4096 = (i 0).val; omega)
  have ep : posOf ⟨(i 0).val * 4096 + (i 1).val, by omega⟩ = i 1 := Fin.ext (by
    show ((i 0).val * 4096 + (i 1).val) % 4096 = (i 1).val; omega)
  rw [val_main_v30_apply, e]
  refine (flat_apply x g b u _ _).trans ?_
  unfold rowAt
  rw [es, ep]
  rfl

/-- With usable tables the reference runs, leaves the normalized rows in its result and its arguments as they were. -/
theorem run (m : (ℓ : Loc nD τ sig) → Buf (Elt Ideal) ℓ) (ρ : Dev nD → PrngReg)
    (u : ∀ d : Dev nD, Spec.Usable (m ((d : Thread nD τ).loc main_arg1)) (m ((d : Thread nD τ).loc main_arg2))) :
    θ_run defs (onTc (τ := τ) (main (F := Ideal))) ⟨m, fun _ => 0, ρ⟩ fun r => ∀ d : Dev nD,
      r.2.mem ((d : Thread nD τ).loc main_v30) = Spec.out (m ((d : Thread nD τ).loc main_arg0))
        (m ((d : Thread nD τ).loc main_arg1)) (m ((d : Thread nD τ).loc main_arg2)) (m ((d : Thread nD τ).loc main_arg3))
        (m ((d : Thread nD τ).loc main_arg4))
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4) :=
  (θ_run defs _ _).mono (fun _ h d => ⟨(h d).1.trans ((val_main_v30_eq m d).trans (result_eq _ _ _ (u d))), (h d).2⟩)
    (Cert.ReferenceIdeal.Value.run m ρ)

end Cert.ReferenceIdeal.Rows

end
-- ==== Proof.Precondition.lean ====
/-
  What the precondition says of the tables: each channel's thresholds ascend and every level is a real number.
-/
module

public import proofs.«01_k».proof.Pre_tables_usable
public import proofs.«01_k».proof.Proof.Spec
public import Idealize.ShloMosaic.Lib.ReduceAll
public import Idealize.ShloMosaic.Lib.Pipeline.Value
public import Idealize.ShloMosaic.Lib.StableHlo.Predicate

@[expose] public section

set_option maxRecDepth 16384

noncomputable section

namespace Cert.Pre_tables_usable

open Idealize.ShloMosaic.ValueIdx
open Idealize.ShloMosaic

/-- The shape relations the precondition's operations ask for. -/
theorem facts : Facts where
  slices_S4096x23_S4096x22_0_0 := by decide
  slices_S4096x23_S4096x22_0_1 := by decide
  reducesTo_S4096x22_S_d0_1 := by decide
  h_S_ := by decide
  bcast_S_S4096x24 := by decide
  reducesTo_S4096x24_S_d0_1 := by decide

/-- There is one index of the shape with no axes. -/
instance : Subsingleton S_.Idx := ⟨fun i j => funext fun a => a.elim0⟩

/-- The pattern of plus infinity is the top of the extended reals. -/
theorem ofBits_top : Ideal.ofBits .f32 0x7F800000#32 = ⊤ := by simp [Ideal.ofBits, Ideal.ieee]
/-- The pattern of minus infinity is the bottom. -/
theorem ofBits_bot : Ideal.ofBits .f32 0xFF800000#32 = ⊥ := by simp [Ideal.ofBits, Ideal.ieee]

/-- Where the precondition holds the tables are usable. -/
theorem usable [Facts] (x : S2x4096x4096.Idx → EReal) (t : S4096x23.Idx → EReal) (y : S4096x24.Idx → EReal) (g b : S4096.Idx → EReal)
    (e : fn (F := Ideal) x t y g b = fun _ => 1#1) : Spec.Usable t y := by
  obtain ⟨ht, hy⟩ := IntOp.andi_eq_one.1 (congrFun e ix0)
  have hle := Host.reduce_andi_all _ _ _ _ _ ht
  have hfin := Host.reduce_andi_all _ _ _ _ _ hy
  constructor
  · intro h
    refine Fin.monotone_iff_le_succ.2 fun k => ?_
    have hk := hle (ix2 h k)
    have hk' : BitVec.ofBool (decide (extractStridedSlice S4096x22 ![0, 0] t Facts.slices_S4096x23_S4096x22_0_0 (ix2 h k)
        ≤ extractStridedSlice S4096x22 ![0, 1] t Facts.slices_S4096x23_S4096x22_0_1 (ix2 h k))) = 1#1 := hk
    rw [StableHlo.Predicate.ofBool_eq_one_iff, decide_eq_true_iff] at hk'
    refine le_of_eq_of_le (congrArg t (funext fun a => Fin.ext ?_)) (hk'.trans_eq (congrArg t (funext fun a => Fin.ext ?_)))
    · match a with
      | ⟨0, _⟩ => show h.val = 0 + h.val; omega
      | ⟨1, _⟩ => show k.val = 0 + k.val; omega
    · match a with
      | ⟨0, _⟩ => show 0 + h.val = h.val; omega
      | ⟨1, _⟩ => show 1 + k.val = k.val + 1; omega
  · intro h j
    obtain ⟨h1, h2⟩ := IntOp.andi_eq_one.1 (hfin (ix2 h j))
    have h1' : BitVec.ofBool (decide (y (ix2 h j) < Ideal.ofBits .f32 0x7F800000#32)) = 1#1 := h1
    have h2' : BitVec.ofBool (decide (Ideal.ofBits .f32 0xFF800000#32 < y (ix2 h j))) = 1#1 := h2
    rw [StableHlo.Predicate.ofBool_eq_one_iff, decide_eq_true_iff, ofBits_top] at h1'
    rw [StableHlo.Predicate.ofBool_eq_one_iff, decide_eq_true_iff, ofBits_bot] at h2'
    exact EReal.coe_toReal h1'.ne h2'.ne'

end Cert.Pre_tables_usable

end
-- ==== Proof.lean ====
/-
  The claim, put together: the three programs run, from any memory, with their arguments unchanged and every semaphore
  counter at zero; and where the precondition holds, the kernel's result and the reference's are the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.ReferenceValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The reference's program runs and leaves its arguments as they were; it has no semaphores to leave up. -/
theorem reference_frame : quiescent_ReferenceIdeal := fun m ρ _ =>
  (θ_run _ _ _).mono (fun _ h => ⟨fun d => (h d).2, sem_eq_zero_of_no_sems (by decide) _⟩) (Cert.ReferenceIdeal.Value.run m ρ)

/-- Where the tables are usable the two programs leave the same array. -/
theorem same_result [Cert.Pre_tables_usable.Facts] : algebraic_KernelIdeal_ReferenceIdeal_pre_tables_usable := by
  intro m ρ m' ρ' pre agree
  have u : ∀ d, Spec.Usable (Cert.KernelIdeal.Body.argT m d) (Cert.KernelIdeal.Body.argY m d) := fun d =>
    Cert.Pre_tables_usable.usable _ _ _ _ _ (pre d)
  refine ⟨fun d => Cert.KernelIdeal.Body.value m d, Cert.KernelIdeal.Body.run m ρ u, ?_⟩
  refine (θ_run _ _ _).mono (fun _ h d => ⟨(h d).1.trans ?_, (h d).2⟩) (Cert.ReferenceIdeal.Rows.run m' ρ' fun d => ?_)
  · obtain ⟨-, e1, e2, -, -⟩ := agree d
    rw [e1, e2]
    exact u d
  · obtain ⟨e0, e1, e2, e3, e4⟩ := agree d
    rw [e0, e1, e2, e3, e4]

/-- Each program's run, and the two results equal where the tables are usable. -/
theorem claim : Cert.Claim :=
  have := Cert.Pre_tables_usable.facts
  ⟨Cert.Kernel.Gen.facts, Cert.KernelIdeal.Gen.facts, Cert.ReferenceIdeal.Gen.facts, Cert.Pre_tables_usable.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    same_result⟩

end Cert.Proof

end
